-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 256]⟩ ⟨2, ![2048, 256]⟩ 0 8 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x256 : Shape := ⟨2, ![256, 256]⟩
abbrev S8x32x256 : Shape := ⟨3, ![8, 32, 256]⟩
abbrev S8 : Shape := ⟨1, ![8]⟩
abbrev S_ : Shape := ⟨0, ![]⟩
abbrev S1 : Shape := ⟨1, ![1]⟩
abbrev S1x32x256 : Shape := ⟨3, ![1, 32, 256]⟩
abbrev S32x256 : Shape := ⟨2, ![32, 256]⟩

abbrev nBuf : Space → Nat
  | .hbm => 2
  | .vmem => 3
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .local _ .vmem, ⟨0, _⟩ => ⟨S256x256, .f32⟩
  | .local _ .vmem, ⟨1, _⟩ => ⟨S256x256, .f32⟩
  | .local _ .vmem, ⟨2, _⟩ => ⟨S8x32x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_off1 (d0 : Dev nD) (c6_i32_22 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v25 : BitVec 32 := Scalar.xori v2 c6_i32_22
  let c32_i32 : BitVec 32 := 32#32
  let v26 : BitVec 32 := Scalar.muli v25 c32_i32
  let c0_i32_30 : BitVec 32 := 0#32
  ![v26.toNat, 0]
def k0_dev8 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_22 : BitVec 32 := 6#32
  let v25 : BitVec 32 := Scalar.xori v2 c6_i32_22
  let c1_i32_26 : BitVec 32 := 1#32
  let v27 : BitVec 32 := Scalar.muli v25 c1_i32_26
  let v28 : BitVec 32 := Scalar.addi c0_i32_27 v27
  v28.toNat
def k0_dev9 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_31 : BitVec 32 := 2#32
  let v36 : BitVec 32 := Scalar.xori v2 c2_i32_31
  let c1_i32_36 : BitVec 32 := 1#32
  let v38 : BitVec 32 := Scalar.muli v36 c1_i32_36
  let v39 : BitVec 32 := Scalar.addi c0_i32_37 v38
  v39.toNat
def k0_dev10 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_41 : BitVec 32 := 5#32
  let v47 : BitVec 32 := Scalar.xori v2 c5_i32_41
  let c1_i32_46 : BitVec 32 := 1#32
  let v49 : BitVec 32 := Scalar.muli v47 c1_i32_46
  let v50 : BitVec 32 := Scalar.addi c0_i32_47 v49
  v50.toNat
def k0_dev11 (d0 : Dev nD) : Nat :=
  let c0_i32_57 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_51 : BitVec 32 := 7#32
  let v58 : BitVec 32 := Scalar.xori v2 c7_i32_51
  let c1_i32_56 : BitVec 32 := 1#32
  let v60 : BitVec 32 := Scalar.muli v58 c1_i32_56
  let v61 : BitVec 32 := Scalar.addi c0_i32_57 v60
  v61.toNat
def k0_dev12 (d0 : Dev nD) : Nat :=
  let c0_i32_67 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_61 : BitVec 32 := 3#32
  let v69 : BitVec 32 := Scalar.xori v2 c3_i32_61
  let c1_i32_66 : BitVec 32 := 1#32
  let v71 : BitVec 32 := Scalar.muli v69 c1_i32_66
  let v72 : BitVec 32 := Scalar.addi c0_i32_67 v71
  v72.toNat
def k0_dev13 (d0 : Dev nD) : Nat :=
  let c0_i32_77 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_71 : BitVec 32 := 4#32
  let v80 : BitVec 32 := Scalar.xori v2 c4_i32_71
  let c1_i32_76 : BitVec 32 := 1#32
  let v82 : BitVec 32 := Scalar.muli v80 c1_i32_76
  let v83 : BitVec 32 := Scalar.addi c0_i32_77 v82
  v83.toNat
def k0_dev14 (d0 : Dev nD) : Nat :=
  let c0_i32_87 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_81 : BitVec 32 := 1#32
  let v91 : BitVec 32 := Scalar.xori v2 c1_i32_81
  let c1_i32_86 : BitVec 32 := 1#32
  let v93 : BitVec 32 := Scalar.muli v91 c1_i32_86
  let v94 : BitVec 32 := Scalar.addi c0_i32_87 v93
  v94.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_91 : BitVec 32 := 32#32
  let v102 : BitVec 32 := Scalar.muli v2 c32_i32_91
  let v103 : Index := Scalar.indexCast v102
  let c0 : Index := 0#32
  ![v103.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_215 : BitVec 32 := 32#32
  let v216 : BitVec 32 := Scalar.muli v2 c32_i32_215
  let c0_i32_220 : BitVec 32 := 0#32
  ![v216.toNat, 0]
def k0_dev15 (d0 : Dev nD) : Nat :=
  let c0_i32_219 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_213 : BitVec 32 := 6#32
  let v214 : BitVec 32 := Scalar.xori v2 c6_i32_213
  let c1_i32_218 : BitVec 32 := 1#32
  let v217 : BitVec 32 := Scalar.muli v214 c1_i32_218
  let v218 : BitVec 32 := Scalar.addi c0_i32_219 v217
  v218.toNat
def k0_dev16 (d0 : Dev nD) : Nat :=
  let c0_i32_228 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_222 : BitVec 32 := 2#32
  let v225 : BitVec 32 := Scalar.xori v2 c2_i32_222
  let c1_i32_227 : BitVec 32 := 1#32
  let v228 : BitVec 32 := Scalar.muli v225 c1_i32_227
  let v229 : BitVec 32 := Scalar.addi c0_i32_228 v228
  v229.toNat
def k0_dev17 (d0 : Dev nD) : Nat :=
  let c0_i32_237 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_231 : BitVec 32 := 5#32
  let v236 : BitVec 32 := Scalar.xori v2 c5_i32_231
  let c1_i32_236 : BitVec 32 := 1#32
  let v239 : BitVec 32 := Scalar.muli v236 c1_i32_236
  let v240 : BitVec 32 := Scalar.addi c0_i32_237 v239
  v240.toNat
def k0_dev18 (d0 : Dev nD) : Nat :=
  let c0_i32_246 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_240 : BitVec 32 := 7#32
  let v247 : BitVec 32 := Scalar.xori v2 c7_i32_240
  let c1_i32_245 : BitVec 32 := 1#32
  let v250 : BitVec 32 := Scalar.muli v247 c1_i32_245
  let v251 : BitVec 32 := Scalar.addi c0_i32_246 v250
  v251.toNat
def k0_dev19 (d0 : Dev nD) : Nat :=
  let c0_i32_255 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_249 : BitVec 32 := 3#32
  let v258 : BitVec 32 := Scalar.xori v2 c3_i32_249
  let c1_i32_254 : BitVec 32 := 1#32
  let v261 : BitVec 32 := Scalar.muli v258 c1_i32_254
  let v262 : BitVec 32 := Scalar.addi c0_i32_255 v261
  v262.toNat
def k0_dev20 (d0 : Dev nD) : Nat :=
  let c0_i32_264 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_258 : BitVec 32 := 4#32
  let v269 : BitVec 32 := Scalar.xori v2 c4_i32_258
  let c1_i32_263 : BitVec 32 := 1#32
  let v272 : BitVec 32 := Scalar.muli v269 c1_i32_263
  let v273 : BitVec 32 := Scalar.addi c0_i32_264 v272
  v273.toNat
def k0_dev21 (d0 : Dev nD) : Nat :=
  let c0_i32_273 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_267 : BitVec 32 := 1#32
  let v280 : BitVec 32 := Scalar.xori v2 c1_i32_267
  let c1_i32_272 : BitVec 32 := 1#32
  let v283 : BitVec 32 := Scalar.muli v280 c1_i32_272
  let v284 : BitVec 32 := Scalar.addi c0_i32_273 v283
  v284.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2048x256 : Shape := ⟨2, ![2048, 256]⟩
abbrev S8x256x256 : Shape := ⟨3, ![8, 256, 256]⟩
abbrev S_ : Shape := ⟨0, ![]⟩
abbrev S256x256 : Shape := ⟨2, ![256, 256]⟩

abbrev nBuf : Space → Nat
  | .hbm => 4
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S8x256x256, .f32⟩
  | .hbm, ⟨2, _⟩ => ⟨S_, .f32⟩
  | .hbm, ⟨3, _⟩ => ⟨S256x256, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Cells.lean ====
/-
The devices, semaphores and pieces of memory the all-reduce speaks of.

Eight devices exchange by exclusive or: in slot `r` (1 to 7) device `c`'s partner is `c ^ r`, and the partner's partner in
the same slot is `c` again. Arrays of 256 rows are cut into eight blocks of 32 rows; the landing buffer has one slot of 32
rows per partner.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic
public import Idealize.ShloMosaic.Lib.Ring

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Partners -/

set_option backward.proofsInPublic true in
/-- Device `c`'s partner in slot `r`. -/
def peer (c : Dev nD) (r : Fin 8) : Dev nD := ⟨(c.val ^^^ r.val) % 8, Nat.mod_lt _ (by decide)⟩

/-- Taking the partner twice in one slot comes back. -/
theorem peer_peer (c : Dev nD) (r : Fin 8) : peer (peer c r) r = c := by revert c r; decide

/-- In slot 0 a device is its own partner. -/
theorem peer_zero (c : Dev nD) : peer c 0 = c := by revert c; decide

/-- The partners of a device are its eight devices, one per slot. -/
theorem peer_inj (c : Dev nD) (r r' : Fin 8) : peer c r = peer c r' ↔ r = r' := by revert c r r'; decide

/-- Only in slot 0 is a device its own partner. -/
theorem peer_eq_self (c : Dev nD) (r : Fin 8) : peer c r = c ↔ r = 0 := by revert c r; decide

/-- `d` is `c`'s partner in slot `r` exactly when `c` is `d`'s. -/
theorem eq_peer_iff (c d : Dev nD) (r : Fin 8) : d = peer c r ↔ c = peer d r := by revert c d r; decide

/-- The pairing of devices in slot `r`, a bijection. -/
def pairing (r : Fin 8) : Dev nD ≃ Dev nD :=
  ⟨fun c => peer c r, fun c => peer c r, fun c => peer_peer c r, fun c => peer_peer c r⟩

/-- The slots as a relabelling of the devices, seen from `c`. -/
def fan (c : Dev nD) : Fin 8 ≃ Dev nD :=
  ⟨peer c, fun d => peer d ⟨c.val, c.isLt⟩, by revert c; decide, by revert c; decide⟩

/-! The devices that the kernel's statements name, in order: seven signals, seven copies of the first exchange, seven of the second. -/

/-- The target of signal number 1. -/
theorem dev1_eq (c : Dev nD) : (⟨k0_dev1 c, k0_dev1_lt c⟩ : Dev nD) = peer c 1 := by revert c; decide
/-- The target of signal number 2. -/
theorem dev2_eq (c : Dev nD) : (⟨k0_dev2 c, k0_dev2_lt c⟩ : Dev nD) = peer c 2 := by revert c; decide
/-- The target of signal number 3. -/
theorem dev3_eq (c : Dev nD) : (⟨k0_dev3 c, k0_dev3_lt c⟩ : Dev nD) = peer c 3 := by revert c; decide
/-- The target of signal number 4. -/
theorem dev4_eq (c : Dev nD) : (⟨k0_dev4 c, k0_dev4_lt c⟩ : Dev nD) = peer c 4 := by revert c; decide
/-- The target of signal number 5. -/
theorem dev5_eq (c : Dev nD) : (⟨k0_dev5 c, k0_dev5_lt c⟩ : Dev nD) = peer c 5 := by revert c; decide
/-- The target of signal number 6. -/
theorem dev6_eq (c : Dev nD) : (⟨k0_dev6 c, k0_dev6_lt c⟩ : Dev nD) = peer c 6 := by revert c; decide
/-- The target of signal number 7. -/
theorem dev7_eq (c : Dev nD) : (⟨k0_dev7 c, k0_dev7_lt c⟩ : Dev nD) = peer c 7 := by revert c; decide
/-- The target of copy of the first exchange number 1. -/
theorem dev8_eq (c : Dev nD) : (⟨k0_dev8 c, k0_dev8_lt c⟩ : Dev nD) = peer c 6 := by revert c; decide
/-- The target of copy of the first exchange number 2. -/
theorem dev9_eq (c : Dev nD) : (⟨k0_dev9 c, k0_dev9_lt c⟩ : Dev nD) = peer c 2 := by revert c; decide
/-- The target of copy of the first exchange number 3. -/
theorem dev10_eq (c : Dev nD) : (⟨k0_dev10 c, k0_dev10_lt c⟩ : Dev nD) = peer c 5 := by revert c; decide
/-- The target of copy of the first exchange number 4. -/
theorem dev11_eq (c : Dev nD) : (⟨k0_dev11 c, k0_dev11_lt c⟩ : Dev nD) = peer c 7 := by revert c; decide
/-- The target of copy of the first exchange number 5. -/
theorem dev12_eq (c : Dev nD) : (⟨k0_dev12 c, k0_dev12_lt c⟩ : Dev nD) = peer c 3 := by revert c; decide
/-- The target of copy of the first exchange number 6. -/
theorem dev13_eq (c : Dev nD) : (⟨k0_dev13 c, k0_dev13_lt c⟩ : Dev nD) = peer c 4 := by revert c; decide
/-- The target of copy of the first exchange number 7. -/
theorem dev14_eq (c : Dev nD) : (⟨k0_dev14 c, k0_dev14_lt c⟩ : Dev nD) = peer c 1 := by revert c; decide
/-- The target of copy of the second exchange number 1. -/
theorem dev15_eq (c : Dev nD) : (⟨k0_dev15 c, k0_dev15_lt c⟩ : Dev nD) = peer c 6 := by revert c; decide
/-- The target of copy of the second exchange number 2. -/
theorem dev16_eq (c : Dev nD) : (⟨k0_dev16 c, k0_dev16_lt c⟩ : Dev nD) = peer c 2 := by revert c; decide
/-- The target of copy of the second exchange number 3. -/
theorem dev17_eq (c : Dev nD) : (⟨k0_dev17 c, k0_dev17_lt c⟩ : Dev nD) = peer c 5 := by revert c; decide
/-- The target of copy of the second exchange number 4. -/
theorem dev18_eq (c : Dev nD) : (⟨k0_dev18 c, k0_dev18_lt c⟩ : Dev nD) = peer c 7 := by revert c; decide
/-- The target of copy of the second exchange number 5. -/
theorem dev19_eq (c : Dev nD) : (⟨k0_dev19 c, k0_dev19_lt c⟩ : Dev nD) = peer c 3 := by revert c; decide
/-- The target of copy of the second exchange number 6. -/
theorem dev20_eq (c : Dev nD) : (⟨k0_dev20 c, k0_dev20_lt c⟩ : Dev nD) = peer c 4 := by revert c; decide
/-- The target of copy of the second exchange number 7. -/
theorem dev21_eq (c : Dev nD) : (⟨k0_dev21 c, k0_dev21_lt c⟩ : Dev nD) = peer c 1 := by revert c; decide

/-- The offset of the rows sent to the partner in slot `r`: the partner's block. -/
theorem off1_eq (c : Dev nD) (r : Fin 8) : k0_off1 c (BitVec.ofNat 32 r.val) = ![32 * (peer c r).val, 0] := by
  revert c r; decide

/-! ## Blocks and slots -/

/-- The input's staging buffer, whole. -/
abbrev xM : Memref sig .tc .vmem S256x256 .f32 := Memref.whole cc0_stg0_0
/-- The result's staging buffer, whole. -/
abbrev oM : Memref sig .tc .vmem S256x256 .f32 := Memref.whole cc0_stg1_0
/-- The landing buffer, whole. -/
abbrev sM : Memref sig .tc .vmem S8x32x256 .f32 := Memref.whole cc0_scratch0

/-- Eight blocks of 32 rows fit in 256 rows. -/
theorem inb_blk (b : Fin 8) : ∀ a, (![32 * b.val, 0] : Fin 2 → Nat) a + S32x256.size a ≤ S256x256.size a := by
  revert b; decide

/-- Eight slots fit in the landing buffer. -/
theorem inb_slot (r : Fin 8) : ∀ a, (![r.val, 0, 0] : Fin 3 → Nat) a + S1x32x256.size a ≤ S8x32x256.size a := by
  revert r; decide

/-- Rows `32 b` to `32 b + 31`. -/
abbrev blkR (b : Fin 8) : Rect S256x256 := Rect.unit (s := S256x256) ![32 * b.val, 0] S32x256.size (inb_blk b)
/-- Slot `r` of the landing buffer. -/
abbrev slotR (r : Fin 8) : Rect S8x32x256 := Rect.unit (s := S8x32x256) ![r.val, 0, 0] S1x32x256.size (inb_slot r)

/-- Block `b` of the input's staging buffer. -/
abbrev xB (b : Fin 8) : Memref sig .tc .vmem S32x256 .f32 := xM.slice (blkR b) (fun _ => rfl)
/-- Block `b` of the result's staging buffer. -/
abbrev oB (b : Fin 8) : Memref sig .tc .vmem S32x256 .f32 := oM.slice (blkR b) (fun _ => rfl)
/-- Slot `r` of the landing buffer, as 32 rows. -/
abbrev sB (r : Fin 8) : Memref sig .tc .vmem S32x256 .f32 :=
  (sM.slice (slotR r) (fun _ => rfl)).squeeze S32x256 squeezes_S1x32x256_S32x256

/-- The elements of a block are those of its rectangle. -/
theorem xB_set (b : Fin 8) : (xB b).view.set = (blkR b).set := View.set_slice_whole cc0_stg0_0 (blkR b)
/-- The same of the result; -/
theorem oB_set (b : Fin 8) : (oB b).view.set = (blkR b).set := View.set_slice_whole cc0_stg1_0 (blkR b)
/-- and of a slot. -/
theorem sB_set (r : Fin 8) : (sB r).view.set = (slotR r).set :=
  (View.set_reshape _ _).trans (View.set_slice_whole cc0_scratch0 (slotR r))

/-- A row belongs to the block of its quotient by 32. -/
theorem mem_blkR (b : Fin 8) (i : S256x256.Idx) : i ∈ (blkR b).set ↔ 32 * b.val ≤ (i 0).val ∧ (i 0).val < 32 * b.val + 32 := by
  rw [Rect.mem_set_unit]
  constructor
  · intro h; exact h 0
  · intro h a
    fin_cases a
    · exact h
    · exact ⟨Nat.zero_le _, by have := (i 1).isLt; simpa using this⟩

/-- An element of the landing buffer belongs to the slot of its first coordinate. -/
theorem mem_slotR (r : Fin 8) (i : S8x32x256.Idx) : i ∈ (slotR r).set ↔ (i 0).val = r.val := by
  rw [Rect.mem_set_unit]
  constructor
  · intro h
    have h0 := h 0
    have h1 : r.val ≤ (i 0).val ∧ (i 0).val < r.val + 1 := h0
    omega
  · intro h a
    fin_cases a
    · exact (show r.val ≤ (i 0).val ∧ (i 0).val < r.val + 1 by omega)
    · exact ⟨Nat.zero_le _, by have := (i 1).isLt; simpa using this⟩
    · exact ⟨Nat.zero_le _, by have := (i 2).isLt; simpa using this⟩

/-- Different blocks share no element. -/
theorem blkR_disjoint (b b' : Fin 8) (h : b ≠ b') : Disjoint (blkR b).set (blkR b').set := by
  rw [Finset.disjoint_left]
  intro i hi hi'
  rw [mem_blkR] at hi hi'
  exact h (Fin.ext (by omega))

/-- Different slots share no element. -/
theorem slotR_disjoint (r r' : Fin 8) (h : r ≠ r') : Disjoint (slotR r).set (slotR r').set := by
  rw [Finset.disjoint_left]
  intro i hi hi'
  rw [mem_slotR] at hi hi'
  exact h (Fin.ext (by omega))

/-- The blocks make up the whole buffer. -/
theorem blkR_cover : Finset.univ.biUnion (fun b => (blkR b).set) = Finset.univ := by
  ext i
  simp only [Finset.mem_biUnion, Finset.mem_univ, true_and, iff_true]
  have h : (i 0).val < 256 := (i 0).isLt
  exact ⟨⟨(i 0).val / 32, by omega⟩, (mem_blkR _ i).mpr ⟨by simp only; omega, by simp only; omega⟩⟩

/-- The slots make up the whole landing buffer. -/
theorem slotR_cover : Finset.univ.biUnion (fun r => (slotR r).set) = Finset.univ := by
  ext i
  simp only [Finset.mem_biUnion, Finset.mem_univ, true_and, iff_true]
  exact ⟨⟨(i 0).val, (i 0).isLt⟩, (mem_slotR _ i).mpr rfl⟩

/-! ## Semaphores -/

set_option backward.proofsInPublic true in
/-- The completion semaphore of kind `k` (0 and 1: the first exchange's send and receive side; 2 and 3: the second
    exchange's) in slot `r`. -/
def dsem (k : Fin 4) (r : Fin 8) : DmaSem sig := ⟨2 + 8 * k.val + r.val, by have := k.isLt; have := r.isLt; show _ < 34; omega⟩

/-- The kind and slot of a completion semaphore; none for the two staging semaphores. -/
def kindSlot (q : DmaSem sig) : Option (Fin 4 × Fin 8) :=
  if q.val < 2 then none else some (Fin.ofNat 4 ((q.val - 2) / 8), Fin.ofNat 8 ((q.val - 2) % 8))

/-- A completion semaphore has the kind and slot that it was named by, -/
theorem kindSlot_dsem (k : Fin 4) (r : Fin 8) : kindSlot (dsem k r) = some (k, r) := by revert k r; decide

/-- so different kinds or slots have different semaphores. -/
theorem dsem_inj (k k' : Fin 4) (r r' : Fin 8) (h : dsem k r = dsem k' r') : k = k' ∧ r = r' := by
  have := congrArg kindSlot h
  rw [kindSlot_dsem, kindSlot_dsem] at this
  exact Prod.mk.inj (Option.some.inj this)

/-- The runtime's barrier semaphore. -/
abbrev barS : Sem sig := (SemArray.scalar (sig.barrier 0 rfl) : Sems sig S_).sem

/-- The semaphores of the protocol: the barrier, and the four kinds in eight slots. -/
abbrev Cx : Type := Option (Fin 4 × Fin 8)

/-- The semaphore an index names. -/
def csem : Cx → SemLoc sig
  | none => .reg barS
  | some kr => .dma (dsem kr.1 kr.2)

/-- The kernel's own semaphores: those of the transfers. -/
def osem (kr : Fin 4 × Fin 8) : SemLoc sig := .dma (dsem kr.1 kr.2)

/-- Device `c`'s barrier. -/
abbrev bar (c : Dev nD) : GSem nD τ sig := ((c : Thread nD τ), .reg barS)
/-- Device `c`'s completion semaphore of kind `k` in slot `r`. -/
abbrev cel (c : Dev nD) (k : Fin 4) (r : Fin 8) : GSem nD τ sig := ((c : Thread nD τ), .dma (dsem k r))
/-- The semaphore of a device that an index names. -/
abbrev kcell (x : Dev nD × Cx) : GSem nD τ sig := ((x.1 : Thread nD τ), csem x.2)

/-- Different indices name different semaphores of a device; -/
theorem csem_inj : Function.Injective csem := by
  rintro (_ | ⟨k, r⟩) (_ | ⟨k', r'⟩) h
  · rfl
  · exact absurd h (fun h => by cases h)
  · exact absurd h (fun h => by cases h)
  · obtain ⟨rfl, rfl⟩ := dsem_inj k k' r r' (SemLoc.dma.inj h)
    rfl

/-- different pairs, different semaphores of the mesh. -/
theorem kcell_inj : Function.Injective kcell := by
  rintro ⟨c, k⟩ ⟨c', k'⟩ h
  have h1 : c = c' := by have := congrArg (fun g : GSem nD τ sig => g.1.1) h; exact this
  subst h1
  have h2 : csem k = csem k' := congrArg Prod.snd h
  rw [csem_inj h2]

/-- Completion semaphores are equal only for the same device, kind and slot; -/
theorem cel_inj (c c' : Dev nD) (k k' : Fin 4) (r r' : Fin 8) (h : cel c k r = cel c' k' r') : c = c' ∧ k = k' ∧ r = r' := by
  have := kcell_inj (a₁ := (c, some (k, r))) (a₂ := (c', some (k', r'))) h
  have h2 := Prod.mk.inj this
  exact ⟨h2.1, Prod.mk.inj (Option.some.inj h2.2)⟩

/-- barriers only for the same device; -/
theorem bar_inj (c c' : Dev nD) (h : bar c = bar c') : c = c' := congrArg (fun g : GSem nD τ sig => g.1.1) h

/-- a completion semaphore is no barrier. -/
theorem cel_ne_bar (c c' : Dev nD) (k : Fin 4) (r : Fin 8) : cel c k r ≠ bar c' := fun h => by
  have := congrArg Prod.snd h; cases this

/-- The bytes one block's transfer counts. -/
abbrev N : ℕ := (oB 0).view.dmaCredit
/-- A transfer counts for something. -/
theorem N_pos : 0 < N := View.dmaCredit_pos _ (by decide)

end Cert.AllReduce

end
-- ==== Proof.Schedule.lean ====
/-
What the buffers hold, and the schedule of the all-reduce: who raises which semaphore by how much, and which memory changes
hands with it.

A barrier cell takes one unit from each of the seven partners, and partner `peer c r`'s unit hands over the memory device
`c` will write on that partner: slot `r` of its landing buffer and block `c` of its result. A completion cell takes one
block's credit. The send side of either exchange hands back what was being read; the receive side hands over what arrived.
-/
module

public import proofs.«01_k».proof.Proof.Cells
public import Idealize.ShloMosaic.Lib.ShareLeaves

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the rounds, one duty name per slot; -/
abbrev UB : Type := URounds (GSem nD τ sig) (Fin 8)
/-- the pipeline's beside it. -/
abbrev UU : Type := UR sig nD τ × UB
local notation "𝕄" => MT nD τ sig Unit (Elt F) ℕ UU ℕ
/-- The pipeline's ghost state among all; -/
abbrev EP : Emb (UR sig nD τ) (MT nD τ sig Unit (Elt F) ℕ UU ℕ) := embL
/-- that of the rounds. -/
abbrev ER : Emb UB (MT nD τ sig Unit (Elt F) ℕ UU ℕ) := embR
/-- No loop variant is needed. -/
abbrev 𝒱₀ : Variants := Variants.none

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-! ## Contents -/

/-- The input's staging buffer on device `c`: its whole block of the argument. -/
def xstg (c : Dev nD) : (cc0_stg0_0 : Ref sig .tc).ty.Contents (Elt F) :=
  (win0_0.blk (0 : Fin 1)).view.read (Elt F) ((s₀ m ρ).mem ((c : Thread nD τ).loc main_arg0))

/-- Block `b` of device `c`'s input. -/
def piece (c : Dev nD) (b : Fin 8) : FVec F S32x256 .f32 := (xB b).view.read (Elt F) (xstg m ρ c)

/-- The sum of block `b` over all devices, added in the order device `b` adds it. -/
def total (b : Dev nD) : FVec F S32x256 .f32 :=
  addf (addf (addf (addf (addf (addf (addf (piece m ρ b b) (piece m ρ (peer b 1) b)) (piece m ρ (peer b 3) b)) (piece m ρ (peer b 4) b))
    (piece m ρ (peer b 2) b)) (piece m ρ (peer b 5) b)) (piece m ρ (peer b 7) b)) (piece m ρ (peer b 6) b)

/-- The result, the same on every device: block `b` is the sum of the blocks `b`. -/
def result : (cc0_stg1_0 : Ref sig .tc).ty.Contents (Elt F) := fun (i : S256x256.Idx) =>
  total m ρ ⟨(i 0).val / 32, by have : (i 0).val < 256 := (i 0).isLt; show _ < 8; omega⟩
    (fun a => ⟨if a = 0 then (i 0).val % 32 else (i 1).val, by
      fin_cases a
      · show (i 0).val % 32 < 32; omega
      · show (i 1).val < 256; exact (i 1).isLt⟩)

/-- Where an element of a block lies in the whole. -/
theorem blkR_emb (b : Fin 8) (j : S32x256.Idx) (a : Fin 2) :
    (((oB b).view.emb j : S256x256.Idx) a).val = if a = 0 then 32 * b.val + (j 0).val else (j 1).val := by
  show (((blkR b).emb j : S256x256.Idx) a).val = _
  rw [Rect.emb_apply]
  fin_cases a
  · show 32 * b.val + 1 * (j 0).val = 32 * b.val + (j 0).val
    rw [Nat.one_mul]
  · show 0 + 1 * (j 1).val = (j 1).val
    rw [Nat.one_mul, Nat.zero_add]

/-- Block `b` of the result, read back. -/
theorem read_result (b : Dev nD) : (oB b).view.read (Elt F) (result m ρ) = total m ρ b := by
  funext j
  show result m ρ ((oB b).view.emb j) = total m ρ b j
  have h0 := blkR_emb b j 0
  have h1 := blkR_emb b j 1
  simp only [if_true, Fin.isValue, one_ne_zero, if_false] at h0 h1
  have hj : (j 0).val < 32 := (j 0).isLt
  unfold result
  have hb : (⟨(((oB b).view.emb j : S256x256.Idx) 0).val / 32, by
      have : (((oB b).view.emb j : S256x256.Idx) 0).val < 256 := (((oB b).view.emb j : S256x256.Idx) 0).isLt
      show _ < 8; omega⟩ : Dev nD) = b := Fin.ext (by simp only [h0]; omega)
  rw [hb]
  congr 1
  funext a
  fin_cases a
  · exact Fin.ext (by show (((oB b).view.emb j : S256x256.Idx) 0).val % 32 = (j 0).val; rw [h0]; omega)
  · exact Fin.ext (by show (((oB b).view.emb j : S256x256.Idx) 1).val = (j 1).val; rw [h1]; rfl)

/-! ## Pieces of memory -/

/-- Device `c` holds block `b` of its input. -/
def xP (c : Dev nD) (b : Fin 8) : sProp 𝕄 := (xB b).view.loc (c : Thread nD τ) ↦[(xB b).view.set]{fullShare} xstg m ρ c
/-- Device `c`'s block `b` of the result buffer is held, at contents `f`. -/
def oP (c : Dev nD) (b : Fin 8) (q : PosShare TreeShare) (f : Buf (Elt F) ((oB b).view.loc (c : Thread nD τ))) : sProp 𝕄 :=
  (oB b).view.loc (c : Thread nD τ) ↦[(oB b).view.set]{q} f
/-- Slot `r` of device `c`'s landing buffer is held, at contents `f`. -/
def sP (c : Dev nD) (r : Fin 8) (f : Buf (Elt F) ((sB r).view.loc (c : Thread nD τ))) : sProp 𝕄 :=
  (sB r).view.loc (c : Thread nD τ) ↦[(sB r).view.set]{fullShare} f
/-- The share of a device's own result block that slot `r`'s transfer reads. -/
def lf (r : Fin 8) : PosShare TreeShare := ShareLeaves.leaf 3 fullShare r

omit [FloatOps F] in
/-- The pieces of memory, and what is made of them, may be kept in an invariant: an input block, -/
instance xP_storable (c : Dev nD) (b : Fin 8) : BI.Storable (upEmb : UEmb _ 𝕄) (xP (F := F) m ρ c b) := by unfold xP; infer_instance
omit [FloatOps F] in
/-- a result block, -/
instance oP_storable (c : Dev nD) (b : Fin 8) (q) (f) : BI.Storable (upEmb : UEmb _ 𝕄) (oP (F := F) c b q f) := by unfold oP; infer_instance
omit [FloatOps F] in
/-- a slot, -/
instance sP_storable (c : Dev nD) (r : Fin 8) (f) : BI.Storable (upEmb : UEmb _ 𝕄) (sP (F := F) c r f) := by unfold sP; infer_instance

/-- Slot `r` of device `c` holds partner `peer c r`'s block `c`. -/
def landed (c : Dev nD) (r : Fin 8) : sProp 𝕄 :=
  iprop(∃ f, ⌜(sB r).view.read (Elt F) f = piece m ρ (peer c r) c⌝ ∗ sP c r f)

omit [FloatOps F] in
/-- A slot that has been written may be, too. -/
instance landed_storable (c : Dev nD) (r : Fin 8) : BI.Storable (upEmb : UEmb _ 𝕄) (landed (F := F) m ρ c r) := by unfold landed; infer_instance

/-! ## The schedule -/

/-- What partner `peer c r`'s barrier signal hands device `c`. -/
def barPay (c : Dev nD) (r : Fin 8) : sProp 𝕄 := iprop((∃ f, sP (peer c r) r f) ∗ ∃ f, oP (peer c r) c fullShare f)

/-- What the completion of kind `k` in slot `r` hands device `c`. -/
def pay (c : Dev nD) (k : Fin 4) (r : Fin 8) : sProp 𝕄 :=
  match k with
  | 0 => xP m ρ c (peer c r)
  | 1 => landed m ρ c r
  | 2 => oP c c (lf r) (result m ρ)
  | 3 => oP c (peer c r) fullShare (result m ρ)

/-- What a barrier signal carries may be kept in an invariant, -/
instance barPay_storable (c : Dev nD) (r : Fin 8) : BI.Storable (upEmb : UEmb _ 𝕄) (barPay (F := F) c r) := by unfold barPay; infer_instance
/-- and what a completion carries. -/
instance pay_storable (c : Dev nD) (k : Fin 4) (r : Fin 8) : BI.Storable (upEmb : UEmb _ 𝕄) (pay (F := F) m ρ c k r) := by
  unfold pay; fin_cases k <;> (dsimp only; infer_instance)

/-- One round of every cell: the barrier has a duty per partner, a completion semaphore of a slot other than 0 a single duty,
    named 0. -/
def sch : Rounds.Schedule (GSem nD τ sig) (Fin 8) 𝕄 where
  duties g n := if n = 0 ∧ g.1.2 = .tc then
      (match g.2 with
        | .reg s => if s = barS then Finset.univ.erase 0 else ∅
        | .dma q => match kindSlot q with
          | some kr => if kr.2 = 0 then ∅ else {0}
          | none => ∅)
    else ∅
  unitless _ := False
  amount g _ _ := match g.2 with | .reg _ => 1 | .dma _ => N
  payload g _ d := match g.2 with
    | .reg _ => barPay g.1.1 d
    | .dma q => match kindSlot q with
      | some kr => pay m ρ g.1.1 kr.1 kr.2
      | none => iprop(emp)
  amount_pos g _ _ _ := by
    rcases g with ⟨_, _ | _⟩
    · exact Nat.one_pos
    · exact N_pos

/-- Whatever the schedule hands over may be kept in an invariant. -/
instance sch_storable (g : GSem nD τ sig) (n : ℕ) (d : Fin 8) : BI.Storable (upEmb : UEmb _ 𝕄) ((sch (F := F) m ρ).payload g n d) := by
  rcases g with ⟨t, s | q⟩
  · exact barPay_storable t.1 d
  · show BI.Storable upEmb (match kindSlot q with | some kr => pay m ρ t.1 kr.1 kr.2 | none => iprop(emp))
    rcases kindSlot q with _ | kr
    · dsimp only; infer_instance
    · dsimp only; infer_instance

omit [FloatOps F] in
/-- A transfer into a block counts for `N`; -/
theorem N_eq (b : Fin 8) (q : DmaSem sig) : (oB b).view.amount (.dma q) = N := rfl
omit [FloatOps F] in
/-- so does one into a slot. -/
theorem N_eq' (r : Fin 8) (q : DmaSem sig) : (sB r).view.amount (.dma q) = N := rfl

/-- A barrier's duties: one for each slot but 0. -/
theorem duties_bar (c : Dev nD) : (sch (F := F) m ρ).duties (bar c) 0 = Finset.univ.erase 0 := by
  dsimp only [sch]
  rw [if_pos ⟨rfl, rfl⟩]
  exact if_pos rfl

/-- A completion's duty: one, but none in slot 0. -/
theorem duties_cel (c : Dev nD) (k : Fin 4) (r : Fin 8) : (sch (F := F) m ρ).duties (cel c k r) 0 = if r = 0 then ∅ else {0} := by
  dsimp only [sch]
  rw [if_pos ⟨rfl, rfl⟩]
  show (match kindSlot (dsem k r) with | some kr => if kr.2 = 0 then ∅ else {0} | none => (∅ : Finset (Fin 8))) = _
  rw [kindSlot_dsem]

/-- There is one round only. -/
theorem duties_later (g : GSem nD τ sig) (n : ℕ) (hn : 1 ≤ n) : (sch (F := F) m ρ).duties g n = ∅ := by
  dsimp only [sch]; rw [if_neg fun h => by omega]

/-- In slot 0 no transfer ever completes. -/
theorem duties_slot0 (c : Dev nD) (k : Fin 4) (n : ℕ) : (sch (F := F) m ρ).duties (cel c k 0) n = ∅ := by
  rcases n with _ | n
  · rw [duties_cel, if_pos rfl]
  · exact duties_later m ρ _ _ (by omega)

/-- A barrier signal counts one; -/
theorem amount_bar (c : Dev nD) (d : Fin 8) : (sch (F := F) m ρ).amount (bar c) 0 d = 1 := rfl
/-- a completion, `N`. -/
theorem amount_cel (c : Dev nD) (k : Fin 4) (r d : Fin 8) : (sch (F := F) m ρ).amount (cel c k r) 0 d = N := rfl

/-- What a barrier signal hands over; -/
theorem payload_bar (c : Dev nD) (d : Fin 8) : (sch (F := F) m ρ).payload (bar c) 0 d = barPay c d := rfl
/-- what a completion does. -/
theorem payload_cel (c : Dev nD) (k : Fin 4) (r d : Fin 8) : (sch (F := F) m ρ).payload (cel c k r) 0 d = pay m ρ c k r := by
  show (match kindSlot (dsem k r) with | some kr => pay m ρ c kr.1 kr.2 | none => iprop(emp)) = _
  rw [kindSlot_dsem]

/-- A barrier takes seven in all; -/
theorem expect_bar (c : Dev nD) : (sch (F := F) m ρ).expect (bar c) 0 = 7 := by
  unfold Schedule.expect Schedule.amountOf
  rw [duties_bar, Finset.sum_congr rfl fun d _ => amount_bar m ρ c d, Finset.sum_const]
  rfl

/-- a completion semaphore, one transfer. -/
theorem expect_cel (c : Dev nD) (k : Fin 4) (r : Fin 8) (hr : r ≠ 0) : (sch (F := F) m ρ).expect (cel c k r) 0 = N := by
  unfold Schedule.expect Schedule.amountOf
  rw [duties_cel, if_neg hr, Finset.sum_singleton, amount_cel]

/-- All of a barrier's round: one payload per partner. -/
theorem rest_bar (c : Dev nD) :
    bigSep ((sch (F := F) m ρ).duties (bar c) 0 \ ∅) (fun d => (sch (F := F) m ρ).payload (bar c) 0 d) = bigSep (Finset.univ.erase 0) fun d => barPay c d := by
  rw [Finset.sdiff_empty, duties_bar]; rfl

/-- All of a completion cell's round: its one payload. -/
theorem rest_cel (c : Dev nD) (k : Fin 4) (r : Fin 8) (hr : r ≠ 0) :
    bigSep ((sch (F := F) m ρ).duties (cel c k r) 0 \ ∅) (fun d => (sch (F := F) m ρ).payload (cel c k r) 0 d) = pay m ρ c k r := by
  rw [Finset.sdiff_empty, duties_cel, if_neg hr, bigSep_singleton, payload_cel]

/-! ## Levels -/

/-- Every semaphore of a core has one level. -/
def L (g : GSem nD τ sig) : Finset Unit := if g.1.2 = .tc then {()} else ∅

/-- Barriers below the first exchange's receive cells, those below the second's; all others at the bottom. -/
def lv (g : GSem nD τ sig) (_ : Unit) : ℕ := match g.2 with
  | .reg _ => 1
  | .dma q => if 10 ≤ q.val ∧ q.val < 18 then 2 else if 26 ≤ q.val then 3 else 0

/-- Other semaphores have none; -/
theorem L_of_ne (g : GSem nD τ sig) (h : g.1.2 ≠ .tc) : L g = ∅ := if_neg h
/-- a core's has the one. -/
theorem L_tc (c : Dev nD) (sm : SemLoc sig) : L ((c : Thread nD τ), sm) = {()} := if_pos rfl

set_option backward.proofsInPublic true in
/-- The level of a kind of completion semaphore. -/
def klv (k : Fin 4) : ℕ := ![0, 2, 0, 3] k

/-- The level of a barrier; -/
theorem lv_bar (c : Dev nD) : lv (bar c) () = 1 := rfl
/-- of a completion semaphore. -/
theorem lv_cel (c : Dev nD) (k : Fin 4) (r : Fin 8) : lv (cel c k r) () = klv k := by
  show (if 10 ≤ (dsem k r).val ∧ (dsem k r).val < 18 then 2 else if 26 ≤ (dsem k r).val then 3 else 0) = klv k
  revert k r; decide

end Cert.AllReduce

end
-- ==== Proof.State.lean ====
/-
The state of one device between two instructions.

Every slot is at a phase, and the phase says what the device holds and still owes in that slot:
0 nothing done; 1 partner signalled; 2 the partner's memory received at the barrier; 3 first-exchange block sent; 4 its read
side complete; 5 the partner's block arrived; 6 a share of the finished block is ready to be sent; 7 finished block sent;
8 its read side complete; 9 the partner's finished block arrived.
An instruction moves one slot from one phase to the next; the proofs of the instructions speak of that slot alone.
-/
module

public import proofs.«01_k».proof.Proof.Schedule

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × Cx → ℕ)

/-! ## What is owed -/

/-- What device `c` still owes in slot `r` at phase `p`. -/
def owed (c : Dev nD) (r : Fin 8) (p : ℕ) : CellTallies nD τ sig Unit :=
  (if p < 1 then tallyAt (bar (peer c r)) () 1 else 0) + (if p < 3 then tallyAt (cel (peer c r) 1 r) () N else 0)
    + (if p < 7 then tallyAt (cel (peer c r) 3 r) () N else 0)

/-- What device `c` still owes in all. -/
def O (c : Dev nD) (ph : Fin 8 → ℕ) : CellTallies nD τ sig Unit := ∑ r ∈ Finset.univ.erase 0, owed c r (ph r)

/-- The other slots are untouched by a change of slot `r`. -/
theorem O_step (c : Dev nD) (ph : Fin 8 → ℕ) (r : Fin 8) (hr : r ≠ 0) (p p' : ℕ) (hp : ph r = p) (T : CellTallies nD τ sig Unit)
    (hT : owed c r p = owed c r p' + T) : O c ph = O c (Function.update ph r p') + T := by
  have hm : r ∈ Finset.univ.erase (0 : Fin 8) := Finset.mem_erase.mpr ⟨hr, Finset.mem_univ r⟩
  unfold O
  rw [← Finset.add_sum_erase _ _ hm, ← Finset.add_sum_erase (Finset.univ.erase 0) (fun r' => owed c r' (Function.update ph r p' r')) hm]
  simp only [Function.update_self]
  have hrest : ∑ r' ∈ (Finset.univ.erase 0).erase r, owed c r' (Function.update ph r p' r')
      = ∑ r' ∈ (Finset.univ.erase 0).erase r, owed c r' (ph r') :=
    Finset.sum_congr rfl fun r' h => by rw [Function.update_of_ne (Finset.ne_of_mem_erase h)]
  rw [hrest, hp, hT, add_right_comm]

/-- Something is owed only to a partner's barrier before the signal, to its first receive cell before the first send, to its
    second receive cell before the second. -/
theorem owed_pos (c : Dev nD) (r : Fin 8) (p : ℕ) (g : GSem nD τ sig) (u : Unit) (h : 0 < owed c r p g u) :
    (p < 1 ∧ g = bar (peer c r)) ∨ (p < 3 ∧ g = cel (peer c r) 1 r) ∨ (p < 7 ∧ g = cel (peer c r) 3 r) := by
  by_contra hn
  rw [not_or, not_or] at hn
  obtain ⟨h1, h2, h3⟩ := hn
  have z : ∀ (q : ℕ) (g' : GSem nD τ sig) (n : ℕ), ¬ (p < q ∧ g = g') →
      ((if p < q then tallyAt g' () n else 0 : CellTallies nD τ sig Unit)) g u = 0 := fun q g' n hq => by
    by_cases hpq : p < q
    · rw [if_pos hpq, tallyAt_apply, if_neg fun h' => hq ⟨hpq, h'.1⟩]
    · rw [if_neg hpq]; rfl
  unfold owed at h
  rw [Pi.add_apply, Finsupp.add_apply, Pi.add_apply, Finsupp.add_apply, z _ _ _ h1, z _ _ _ h2, z _ _ _ h3] at h
  exact Nat.lt_irrefl 0 h

/-- A sum of tallies is positive only where a summand is. -/
theorem O_pos (c : Dev nD) (ph : Fin 8 → ℕ) (g : GSem nD τ sig) (u : Unit) (h : 0 < O c ph g u) :
    ∃ r, r ≠ 0 ∧ 0 < owed c r (ph r) g u := by
  unfold O at h
  rw [Finset.sum_apply, Finsupp.finset_sum_apply] at h
  obtain ⟨r, hr, hpos⟩ := Finset.exists_ne_zero_of_sum_ne_zero (Nat.pos_iff_ne_zero.mp h)
  exact ⟨r, Finset.ne_of_mem_erase hr, Nat.pos_of_ne_zero hpos⟩

/-- A device may wait on a semaphore whose level is below all it owes. -/
theorem mayWait (c : Dev nD) (sm : SemLoc sig) (ph : Fin 8 → ℕ) (n : ℕ) (hsm : lv ((c : Thread nD τ), sm) () ≤ n)
    (h : ∀ r, r ≠ 0 → (ph r < 1 → n < 1) ∧ (ph r < 3 → n < 2) ∧ (ph r < 7 → n < 3)) :
    (levAts L lv : sProp 𝕄) ⊢ MayWait (c : Thread nD τ) sm () (O c ph) :=
  MayOwe.of_cut (L := L) (lev := lv) n (fun p hp => by rw [Finset.mem_singleton.mp hp, L_tc]; exact Finset.mem_singleton_self _)
    (fun g u hg => by
      obtain ⟨r, hr, hg⟩ := O_pos c ph g u hg
      rcases owed_pos c r _ g u hg with ⟨-, rfl⟩ | ⟨-, rfl⟩ | ⟨-, rfl⟩ <;> exact Finset.mem_singleton_self _)
    (fun p hp => by rw [Finset.mem_singleton.mp hp]; exact hsm)
    (fun g u hg => by
      obtain ⟨r, hr, hg⟩ := O_pos c ph g u hg
      obtain ⟨h1, h2, h3⟩ := h r hr
      rcases owed_pos c r _ g u hg with ⟨hp, rfl⟩ | ⟨hp, rfl⟩ | ⟨hp, rfl⟩
      · exact (lv_bar _).symm ▸ h1 hp
      · exact (lv_cel _ 1 r).symm ▸ h2 hp
      · exact (lv_cel _ 3 r).symm ▸ h3 hp)

/-- After the last send nothing is owed. -/
theorem O_done (c : Dev nD) (ph : Fin 8 → ℕ) (h : ∀ r, r ≠ 0 → 7 ≤ ph r) : O c ph = 0 := by
  unfold O
  refine Finset.sum_eq_zero fun r hr => ?_
  have := h r (Finset.ne_of_mem_erase hr)
  unfold owed
  rw [if_neg (by omega), if_neg (by omega), if_neg (by omega), add_zero, add_zero]

/-! ## What is held in a slot -/

/-- The token of a duty in the one round. -/
abbrev tok (g : GSem nD τ sig) (d : Fin 8) : sProp 𝕄 := dutyTok ER g 0 d
/-- Device `c` stands before round `n` of a completion semaphore. -/
abbrev pos (c : Dev nD) (k : Fin 4) (r : Fin 8) (n : ℕ) : sProp 𝕄 := atPos ER (cel c k r) n ∅ 0
/-- A credit of one transfer on a completion semaphore. -/
abbrev crd (c : Dev nD) (k : Fin 4) (r : Fin 8) : sProp 𝕄 := cred (tallyAt (cel c k r) () N)

/-- For the second exchange: the tokens of its two completions, the positions at its two cells, the partner's credit. -/
def secondKit (c : Dev nD) (r : Fin 8) : sProp 𝕄 :=
  iprop(tok (cel c 2 r) 0 ∗ tok (cel (peer c r) 3 r) 0 ∗ pos c 2 r 0 ∗ pos c 3 r 0 ∗ crd c 3 r)

/-- For the first exchange: the partner's block of the input, the same tokens, positions and credit; and the second's. -/
def firstKit (c : Dev nD) (r : Fin 8) : sProp 𝕄 :=
  iprop((xP m ρ c (peer c r) ∗ tok (cel c 0 r) 0 ∗ tok (cel (peer c r) 1 r) 0 ∗ pos c 0 r 0 ∗ pos c 1 r 0 ∗ crd c 1 r) ∗ secondKit c r)

/-- Memory handed to the partner by the barrier signal. -/
def lent (c : Dev nD) (r : Fin 8) : sProp 𝕄 := iprop((∃ f, sP c r f) ∗ ∃ f, oP c (peer c r) fullShare f)

/-- The first exchange complete in this slot. -/
def firstDone (c : Dev nD) (r : Fin 8) : sProp 𝕄 := iprop(xP m ρ c (peer c r) ∗ pos c 0 r 1 ∗ pos c 1 r 1 ∗ landed m ρ c r)

/-- What device `c` holds in slot `r` at phase `p`. -/
def Rs (c : Dev nD) (r : Fin 8) : ℕ → sProp 𝕄
  | 0 => iprop(tok (bar (peer c r)) r ∗ lent c r ∗ firstKit m ρ c r)
  | 1 => firstKit m ρ c r
  | 2 => iprop(barPay c r ∗ firstKit m ρ c r)
  | 3 => iprop((crd c 0 r ∗ pos c 0 r 0 ∗ pos c 1 r 0 ∗ crd c 1 r) ∗ (∃ f, oP (peer c r) c fullShare f) ∗ secondKit c r)
  | 4 => iprop((xP m ρ c (peer c r) ∗ pos c 0 r 1 ∗ pos c 1 r 0 ∗ crd c 1 r) ∗ (∃ f, oP (peer c r) c fullShare f) ∗ secondKit c r)
  | 5 => iprop(firstDone m ρ c r ∗ (∃ f, oP (peer c r) c fullShare f) ∗ secondKit c r)
  | 6 => iprop(oP c c (lf r) (result m ρ) ∗ firstDone m ρ c r ∗ (∃ f, oP (peer c r) c fullShare f) ∗ secondKit c r)
  | 7 => iprop(firstDone m ρ c r ∗ crd c 2 r ∗ pos c 2 r 0 ∗ pos c 3 r 0 ∗ crd c 3 r)
  | 8 => iprop(firstDone m ρ c r ∗ oP c c (lf r) (result m ρ) ∗ pos c 2 r 1 ∗ pos c 3 r 0 ∗ crd c 3 r)
  | _ => iprop(firstDone m ρ c r ∗ oP c c (lf r) (result m ρ) ∗ pos c 2 r 1 ∗ pos c 3 r 1 ∗ oP c (peer c r) fullShare (result m ρ))

/-! ## The whole state -/

/-- The cells' invariants, and that each has reached round 0. -/
def records : sProp 𝕄 := bigSep Finset.univ fun x => iprop(cellInv ER (sch m ρ) (K x) (kcell x) ∗ reached ER (kcell x) 0)

/-- The invariants stay available. -/
instance records_persistent : BI.Persistent (records (F := F) m ρ K) := by unfold records; infer_instance

/-- One cell's invariant among them. -/
theorem records_inv (x : Dev nD × Cx) : records (F := F) m ρ K ⊢ iprop(cellInv ER (sch m ρ) (K x) (kcell x) ∗ reached ER (kcell x) 0) := by
  unfold records; exact bigSep_elim (Finset.mem_univ x)

/-- The device's own barrier before its wait. -/
def barReady (c : Dev nD) : sProp 𝕄 := iprop(atPos ER (bar c) 0 ∅ 0 ∗ cred (tallyAt (bar c) () 7))
/-- And after it. -/
def barDone (c : Dev nD) : sProp 𝕄 := atPos ER (bar c) 1 ∅ 0

/-- What device `c` holds with its slots at the phases `ph`: `B` at its barrier, `Y` of its own block of the result. -/
def St (c : Dev nD) (ph : Fin 8 → ℕ) (B Y : sProp 𝕄) : sProp 𝕄 :=
  iprop(records m ρ K ∗ levAts L lv ∗ (∃ W, owes (c : Thread nD τ) (O c ph) W) ∗ (bigSep (Finset.univ.erase 0) fun r => Rs m ρ c r (ph r))
    ∗ B ∗ Y ∗ xP m ρ c c)

/-- The rest of the slots when slot `r` changes. -/
theorem slots_update (c : Dev nD) (ph : Fin 8 → ℕ) (r : Fin 8) (hr : r ≠ 0) (p' : ℕ) :
    (bigSep (Finset.univ.erase 0) fun r' => Rs m ρ c r' (Function.update ph r p' r'))
      = iprop(Rs m ρ c r p' ∗ bigSep ((Finset.univ.erase 0).erase r) fun r' => Rs m ρ c r' (ph r')) := by
  rw [bigSep_erase (Finset.mem_erase.mpr ⟨hr, Finset.mem_univ r⟩), Function.update_self,
    bigSep_congr (Ψ := fun r' => Rs m ρ c r' (ph r')) fun r' h => by rw [Function.update_of_ne (Finset.ne_of_mem_erase h)]]
  rfl

/-- The same, with nothing changed yet. -/
theorem slots_split (c : Dev nD) (ph : Fin 8 → ℕ) (r : Fin 8) (hr : r ≠ 0) (p : ℕ) (hp : ph r = p) :
    (bigSep (Finset.univ.erase 0) fun r' => Rs m ρ c r' (ph r'))
      = iprop(Rs m ρ c r p ∗ bigSep ((Finset.univ.erase 0).erase r) fun r' => Rs m ρ c r' (ph r')) := by
  rw [bigSep_erase (Finset.mem_erase.mpr ⟨hr, Finset.mem_univ r⟩), hp]
  rfl

/-- Device `c` runs `p`, to end in `Q`. -/
abbrev run {α : Type} (c : Dev nD) (Q : α → sProp 𝕄) (p : Prog (TpuEff nD τ sig (Elt F) Λ₀ .tc) α) : sProp 𝕄 :=
  wp frame (wpE (defs₀ (F := F)) 𝒱₀ (c : Thread nD τ) none) Set.univ p Q

variable {K}

/-- An instruction that moves slot `r` from phase `p` to phase `p'` is an instruction on the whole state. -/
theorem step {α : Type} {c : Dev nD} {Q : α → sProp 𝕄} {ph : Fin 8 → ℕ} {B Y : sProp 𝕄} {eff : TpuEff nD τ sig (Elt F) Λ₀ .tc PUnit.{1}}
    {k : PUnit.{1} → Prog (TpuEff nD τ sig (Elt F) Λ₀ .tc) α} (r : Fin 8) (hr : r ≠ 0) (p p' : ℕ) (hp : ph r = p)
    (h : ∀ W, iprop(records m ρ K ∗ levAts L lv ∗ owes (c : Thread nD τ) (O c ph) W ∗ Rs m ρ c r p)
      ⊢ iprop((((∃ W', owes (c : Thread nD τ) (O c (Function.update ph r p')) W') ∗ Rs m ρ c r p') -∗ run c Q (k ⟨⟩)) -∗ run c Q (.op eff k)))
    (hk : St m ρ K c (Function.update ph r p') B Y ⊢ run c Q (k ⟨⟩)) :
    St m ρ K c ph B Y ⊢ run c Q (.op eff k) := by
  unfold St at hk ⊢
  rw [slots_update m ρ c ph r hr p'] at hk
  rw [slots_split m ρ c ph r hr p hp]
  iintro ⟨#HR, #HL, ⟨%W, HO⟩, ⟨Hr, Hs⟩, HX⟩
  iapply (h W) $$ [HO Hr]
  · isplitr; · iexact HR
    isplitr; · iexact HL
    isplitl [HO] <;> iassumption
  iintro ⟨HO, Hr⟩
  iapply hk
  isplitr; · iexact HR
  isplitr; · iexact HL
  isplitl [HO]; · iexact HO
  isplitl [Hr Hs]
  · isplitl [Hr] <;> iassumption
  iexact HX

end Cert.AllReduce

end
-- ==== Proof.Steps.lean ====
/-
One lemma per kind of instruction, each moving one slot to its next phase.
-/
module

public import proofs.«01_k».proof.Proof.State
public import Idealize.ShloMosaic.Lib.ViewIndex

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) {K : Dev nD × Cx → ℕ}

/-! ## Equal reads, equal holdings -/

/-- A block's holding depends only on what is read through the block. -/
theorem oP_congr (c : Dev nD) (b : Fin 8) (q : PosShare TreeShare) {f g : Buf (Elt F) ((oB b).view.loc (c : Thread nD τ))}
    (h : (oB b).view.read (Elt F) f = (oB b).view.read (Elt F) g) : oP (F := F) c b q f = oP c b q g := by
  unfold oP
  refine pointsTo_congr fun i hi => ?_
  obtain ⟨x, -, rfl⟩ := Finset.mem_map.mp hi
  exact View.eq_of_read_eq (congrFun h x)

/-- Writing the finished block makes the block the result's. -/
theorem oP_write (c : Dev nD) (b : Dev nD) (f : Buf (Elt F) ((oB b).view.loc (c : Thread nD τ))) (w : FVec F S32x256 .f32) (hw : w = total m ρ b) :
    oP (F := F) c b fullShare ((oB b).view.write (Elt F) f w Finset.univ) = oP c b fullShare (result m ρ) :=
  oP_congr c b fullShare (by rw [View.read_write_univ, read_result, hw])

/-- What the second exchange hands over, from the partner's side. -/
theorem pay_three (c : Dev nD) (r : Fin 8) : pay (F := F) m ρ (peer c r) 3 r = oP (peer c r) c fullShare (result m ρ) := by
  show oP (peer c r) (peer (peer c r) r) fullShare (result m ρ) = _
  have h : ∀ b, b = c → oP (F := F) (peer c r) b fullShare (result m ρ) = oP (peer c r) c fullShare (result m ρ) := fun b hb => by rw [hb]
  exact h _ (peer_peer c r)

/-- What the first exchange hands over, from the partner's side. -/
theorem landed_intro (c : Dev nD) (r : Fin 8) (fd : Buf (Elt F) ((sB r).view.loc (peer c r : Thread nD τ))) :
    ((sB r).view.loc (peer c r : Thread nD τ)
        ↦[(sB r).view.set]{fullShare} (sB r).view.write (Elt F) fd ((xB (peer c r)).view.read (Elt F) (xstg m ρ c)) Finset.univ : sProp 𝕄)
      ⊢ pay m ρ (peer c r) 1 r := by
  show _ ⊢ landed m ρ (peer c r) r
  unfold landed sP
  iintro H
  iexists ((sB r).view.write (Elt F) fd ((xB (peer c r)).view.read (Elt F) (xstg m ρ c)) Finset.univ)
  isplitr
  · ipureintro
    rw [View.read_write_univ, peer_peer]; rfl
  iexact H

/-- What a partner's signal hands over, from the signaller's side. -/
theorem barPay_peer (c : Dev nD) (r : Fin 8) : lent (F := F) c r ⊢ barPay (peer c r) r := by
  unfold lent barPay
  have h : ∀ b, b = c → iprop((∃ f, sP (F := F) c r f) ∗ ∃ f, oP c (peer c r) fullShare f)
      ⊢ iprop((∃ f, sP (F := F) b r f) ∗ ∃ f, oP b (peer c r) fullShare f) := fun b hb => by subst hb; exact Entails.refl _
  exact h _ (peer_peer c r)

/-! ## What each instruction pays -/

/-- A signal pays one unit of what is owed; -/
theorem owed_signal (c : Dev nD) (r : Fin 8) : owed c r 0 = owed c r 1 + tallyAt (bar (peer c r)) () 1 := by
  unfold owed
  simp only [Nat.lt_irrefl, Nat.zero_lt_one, if_true, if_false, show (0 : ℕ) < 3 by decide, show (0 : ℕ) < 7 by decide,
    show (1 : ℕ) < 3 by decide, show (1 : ℕ) < 7 by decide, zero_add]
  rw [add_assoc, add_comm]

/-- a copy of the first exchange, its arrival; -/
theorem owed_first (c : Dev nD) (r : Fin 8) : owed c r 2 = owed c r 3 + tallyAt (cel (peer c r) 1 r) () N := by
  unfold owed
  simp only [Nat.lt_irrefl, if_true, if_false, show (2 : ℕ) < 3 by decide, show (2 : ℕ) < 7 by decide, show ¬ (2 : ℕ) < 1 by decide,
    show ¬ (3 : ℕ) < 1 by decide, show (3 : ℕ) < 7 by decide, zero_add]
  rw [add_comm]

/-- one of the second, its arrival; -/
theorem owed_second (c : Dev nD) (r : Fin 8) : owed c r 6 = owed c r 7 + tallyAt (cel (peer c r) 3 r) () N := by
  unfold owed
  simp only [Nat.lt_irrefl, if_true, if_false, show ¬ (6 : ℕ) < 3 by decide, show (6 : ℕ) < 7 by decide, show ¬ (6 : ℕ) < 1 by decide,
    show ¬ (7 : ℕ) < 1 by decide, show ¬ (7 : ℕ) < 3 by decide, zero_add]

/-- every other step leaves it. -/
theorem owed_same (c : Dev nD) (r : Fin 8) (p p' : ℕ) (h : (1 ≤ p ∧ p' < 3 ∧ 1 ≤ p' ∧ p < 3) ∨ (3 ≤ p ∧ 3 ≤ p' ∧ p < 7 ∧ p' < 7) ∨ (7 ≤ p ∧ 7 ≤ p')) :
    owed c r p = owed c r p' + 0 := by
  have h1 : p < 1 ↔ p' < 1 := by omega
  have h2 : p < 3 ↔ p' < 3 := by omega
  have h3 : p < 7 ↔ p' < 7 := by omega
  unfold owed
  simp only [h1, h2, h3, add_zero]

/-! ## Signals and sends -/

/-- A barrier signal to the partner in slot `r`. -/
theorem st_signal {α : Type} {c : Dev nD} {Q : α → sProp 𝕄} {ph : Fin 8 → ℕ} {B Y : sProp 𝕄} {k : PUnit.{1} → Prog (TpuEff nD τ sig (Elt F) Λ₀ .tc) α}
    (r : Fin 8) (hr : r ≠ 0) (hp : ph r = 0) {d : Dev nD} (hd : d = peer c r) {z : ℤ} (hz : z = ((1 : ℕ) : ℤ))
    (hk : St m ρ K c (Function.update ph r 1) B Y ⊢ run c Q (k ⟨⟩)) :
    St m ρ K c ph B Y ⊢ run c Q (.op (.semSignal (d, .tc) barS z) k) := by
  subst hd; subst hz
  refine step m ρ r hr 0 1 hp (fun W => ?_) hk
  rw [O_step c ph r hr 0 1 hp _ (owed_signal c r)]
  iintro ⟨#HR, -, HO, Hr⟩ Hk
  ihave Hi := (records_inv m ρ K (peer c r, none)) $$ HR
  icases Hi with ⟨HI, Hre⟩
  simp only [Rs]
  icases Hr with ⟨Ht, Hl, Hf⟩
  iapply (Rounds.wp_signal 𝒱₀ ER (sch m ρ) (c : Thread nD τ) none (dst := (peer c r : Thread nD τ)) (κ := K (peer c r, none))
      (d := r) (by rw [duties_bar]; exact Finset.mem_erase.mpr ⟨hr, Finset.mem_univ r⟩) (amount_bar m ρ (peer c r) r) () (O c (Function.update ph r 1)) rfl)
    $$ [HI Hre HO Ht Hl]
  · isplitl [HI]; · iexact HI
    isplitl [HO]; · iexact HO
    isplitl [Ht]; · iexact Ht
    isplitl [Hl]
    · iapply ((barPay_peer c r).trans (Entails.of_eq (payload_bar m ρ (peer c r) r).symm)); iexact Hl
    iexact Hre
  iintro HO
  iapply Hk
  isplitl [HO]
  · iexists W; iexact HO
  iexact Hf

/-- The first exchange's send in slot `r`: the partner's block of the input, into the partner's slot. -/
theorem st_first {α : Type} {c : Dev nD} {Q : α → sProp 𝕄} {ph : Fin 8 → ℕ} {B Y : sProp 𝕄} {k : PUnit.{1} → Prog (TpuEff nD τ sig (Elt F) Λ₀ .tc) α}
    (r : Fin 8) (hr : r ≠ 0) (hp : ph r = 2) {d : Dev nD} (hd : d = peer c r)
    {off : Fin 2 → ℕ} {ho : ∀ a, off a + S32x256.size a ≤ S256x256.size a} (hoff : off = ![32 * (peer c r).val, 0])
    {off' : Fin 3 → ℕ} {ho' : ∀ a, off' a + S1x32x256.size a ≤ S8x32x256.size a} (hoff' : off' = ![r.val, 0, 0])
    {q q' : DmaSem sig} (hq : q = dsem 0 r) (hq' : q' = dsem 1 r)
    {hsc : ((sM.slice (Rect.unit (s := S8x32x256) off' S1x32x256.size ho') (fun _ => rfl)).squeeze S32x256 squeezes_S1x32x256_S32x256
      : Memref sig (Dev.tc d : Thread nD τ).2.kind .vmem S32x256 .f32).view.ref.isScScratch = false}
    {hsrc : (xM.slice (Rect.unit (s := S256x256) off S32x256.size ho) (fun _ => rfl)).view.WordExact}
    {hdst : ((sM.slice (Rect.unit (s := S8x32x256) off' S1x32x256.size ho') (fun _ => rfl)).squeeze S32x256 squeezes_S1x32x256_S32x256).view.WordExact}
    {hsem : DmaTarget.Typed .vmem (.dma q') (.remote (Dev.tc d : Thread nD τ)
      ((sM.slice (Rect.unit (s := S8x32x256) off' S1x32x256.size ho') (fun _ => rfl)).squeeze S32x256 squeezes_S1x32x256_S32x256
        : Memref sig (Dev.tc d : Thread nD τ).2.kind .vmem S32x256 .f32) (.dma q) hsc)}
    (hk : St m ρ K c (Function.update ph r 3) B Y ⊢ run c Q (k ⟨⟩)) :
    St m ρ K c ph B Y ⊢ run c Q (.op (.enqueueDma (xM.slice (Rect.unit (s := S256x256) off S32x256.size ho) (fun _ => rfl))
      (.remote (Dev.tc d : Thread nD τ) ((sM.slice (Rect.unit (s := S8x32x256) off' S1x32x256.size ho') (fun _ => rfl)).squeeze S32x256 squeezes_S1x32x256_S32x256)
        (.dma q) hsc) (.dma q') hsrc hdst hsem) k) := by
  subst hd; subst hoff; subst hoff'; subst hq; subst hq'
  refine step m ρ r hr 2 3 hp (fun W => ?_) hk
  rw [O_step c ph r hr 2 3 hp _ (owed_first c r)]
  iintro ⟨#HR, -, HO, Hr⟩ Hk
  ihave Hi := (records_inv m ρ K (c, some (0, r))) $$ HR
  icases Hi with ⟨HI, Hre⟩
  ihave Hi' := (records_inv m ρ K (peer c r, some (1, r))) $$ HR
  icases Hi' with ⟨HI', Hre'⟩
  simp only [Rs]; unfold firstKit barPay
  icases Hr with ⟨⟨⟨%fd, Hs⟩, Ho⟩, ⟨Hx, Ht, Ht', Hp, Hp', Hc⟩, Hf⟩
  unfold xP sP
  iapply (Rounds.wp_send_pointsTo 𝒱₀ ER (sch m ρ) (c : Thread nD τ) none (κ₁ := K (c, some (0, r))) (κ₂ := K (peer c r, some (1, r)))
      (r₁ := 0) (r₂ := 0) (d₁ := 0) (d₂ := 0) (fd := fd)
      (by rw [duties_cel, if_neg hr]; exact Finset.mem_singleton_self _) (by rw [duties_cel, if_neg hr]; exact Finset.mem_singleton_self _)
      () () N (N_eq' r (dsem 1 r)) (amount_cel m ρ c 0 r 0) (amount_cel m ρ (peer c r) 1 r 0) (O c (Function.update ph r 3)) rfl (W := W)
      (by rw [payload_cel]; exact Entails.refl _)
      (by rw [payload_cel]; exact landed_intro m ρ c r fd))
    $$ [HI HI' Hx Hs HO Ht Hre Ht' Hre']
  · isplitl [HI]; · iexact HI
    isplitl [HI']; · iexact HI'
    isplitl [Hx]; · iexact Hx
    isplitl [Hs]; · iexact Hs
    isplitl [HO]; · iexact HO
    isplitl [Ht]; · iexact Ht
    isplitl [Hre]; · iexact Hre
    isplitl [Ht']; · iexact Ht'
    iexact Hre'
  iintro ⟨Hcs, HO⟩
  iapply Hk
  isplitl [HO]
  · iexists W; iexact HO
  isplitl [Hcs Hp Hp' Hc]
  · isplitl [Hcs]; · iexact Hcs
    isplitl [Hp]; · iexact Hp
    isplitl [Hp']; · iexact Hp'
    iexact Hc
  isplitl [Ho]; · iexact Ho
  iexact Hf

/-- The second exchange's send in slot `r`: the finished block, into the same block of the partner's result. -/
theorem st_second {α : Type} {c : Dev nD} {Q : α → sProp 𝕄} {ph : Fin 8 → ℕ} {B Y : sProp 𝕄} {k : PUnit.{1} → Prog (TpuEff nD τ sig (Elt F) Λ₀ .tc) α}
    (r : Fin 8) (hr : r ≠ 0) (hp : ph r = 6) {d : Dev nD} (hd : d = peer c r)
    {off : Fin 2 → ℕ} {ho : ∀ a, off a + S32x256.size a ≤ S256x256.size a} (hoff : off = ![32 * c.val, 0])
    {q q' : DmaSem sig} (hq : q = dsem 2 r) (hq' : q' = dsem 3 r)
    {hsc : (oM.slice (Rect.unit (s := S256x256) off S32x256.size ho) (fun _ => rfl)
      : Memref sig (Dev.tc d : Thread nD τ).2.kind .vmem S32x256 .f32).view.ref.isScScratch = false}
    {hsrc hdst : (oM.slice (Rect.unit (s := S256x256) off S32x256.size ho) (fun _ => rfl)).view.WordExact}
    {hsem : DmaTarget.Typed .vmem (.dma q') (.remote (Dev.tc d : Thread nD τ)
      (oM.slice (Rect.unit (s := S256x256) off S32x256.size ho) (fun _ => rfl) : Memref sig (Dev.tc d : Thread nD τ).2.kind .vmem S32x256 .f32) (.dma q) hsc)}
    (hk : St m ρ K c (Function.update ph r 7) B Y ⊢ run c Q (k ⟨⟩)) :
    St m ρ K c ph B Y ⊢ run c Q (.op (.enqueueDma (oM.slice (Rect.unit (s := S256x256) off S32x256.size ho) (fun _ => rfl))
      (.remote (Dev.tc d : Thread nD τ) (oM.slice (Rect.unit (s := S256x256) off S32x256.size ho) (fun _ => rfl))
        (.dma q) hsc) (.dma q') hsrc hdst hsem) k) := by
  subst hd; subst hoff; subst hq; subst hq'
  refine step m ρ r hr 6 7 hp (fun W => ?_) hk
  rw [O_step c ph r hr 6 7 hp _ (owed_second c r)]
  iintro ⟨#HR, -, HO, Hr⟩ Hk
  ihave Hi := (records_inv m ρ K (c, some (2, r))) $$ HR
  icases Hi with ⟨HI, Hre⟩
  ihave Hi' := (records_inv m ρ K (peer c r, some (3, r))) $$ HR
  icases Hi' with ⟨HI', Hre'⟩
  simp only [Rs]; unfold secondKit
  icases Hr with ⟨Hy, Hd, ⟨%fd, Ho⟩, Ht, Ht', Hp, Hp', Hc⟩
  unfold oP
  iapply (Rounds.wp_send_pointsTo 𝒱₀ ER (sch m ρ) (c : Thread nD τ) none (κ₁ := K (c, some (2, r))) (κ₂ := K (peer c r, some (3, r)))
      (r₁ := 0) (r₂ := 0) (d₁ := 0) (d₂ := 0) (fd := fd)
      (by rw [duties_cel, if_neg hr]; exact Finset.mem_singleton_self _) (by rw [duties_cel, if_neg hr]; exact Finset.mem_singleton_self _)
      () () N (N_eq c (dsem 3 r)) (amount_cel m ρ c 2 r 0) (amount_cel m ρ (peer c r) 3 r 0) (O c (Function.update ph r 7)) rfl (W := W)
      (by rw [payload_cel]; exact Entails.refl _)
      (by rw [payload_cel, pay_three]; exact Entails.of_eq (oP_write m ρ (peer c r) c fd _ (read_result m ρ c))))
    $$ [HI HI' Hy Ho HO Ht Hre Ht' Hre']
  · isplitl [HI]; · iexact HI
    isplitl [HI']; · iexact HI'
    isplitl [Hy]; · iexact Hy
    isplitl [Ho]; · iexact Ho
    isplitl [HO]; · iexact HO
    isplitl [Ht]; · iexact Ht
    isplitl [Hre]; · iexact Hre
    isplitl [Ht']; · iexact Ht'
    iexact Hre'
  iintro ⟨Hcs, HO⟩
  iapply Hk
  isplitl [HO]
  · iexists W; iexact HO
  isplitl [Hd]; · iexact Hd
  isplitl [Hcs]; · iexact Hcs
  isplitl [Hp]; · iexact Hp
  isplitl [Hp']; · iexact Hp'
  iexact Hc

end Cert.AllReduce

end
-- ==== Proof.Waits.lean ====
/-
The waits, the loads and the store: the remaining kinds of instruction.
-/
module

public import proofs.«01_k».proof.Proof.Steps

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) {K : Dev nD × Cx → ℕ}

/-- What is owed when every slot is at one of two phases that owe the same. -/
theorem O_same (c : Dev nD) (ph : Fin 8 → ℕ) (p p' : ℕ) (h : ∀ r, r ≠ 0 → ph r = p)
    (hs : (1 ≤ p ∧ p' < 3 ∧ 1 ≤ p' ∧ p < 3) ∨ (3 ≤ p ∧ 3 ≤ p' ∧ p < 7 ∧ p' < 7) ∨ (7 ≤ p ∧ 7 ≤ p')) : O c ph = O c (fun _ => p') := by
  unfold O
  refine Finset.sum_congr rfl fun r hr => ?_
  rw [h r (Finset.ne_of_mem_erase hr), owed_same c r p p' hs, add_zero]

/-- All slots at one phase. -/
theorem slots_all (c : Dev nD) (ph : Fin 8 → ℕ) (p : ℕ) (h : ∀ r, r ≠ 0 → ph r = p) :
    (bigSep (Finset.univ.erase 0) fun r => Rs (F := F) m ρ c r (ph r)) = bigSep (Finset.univ.erase 0) fun r => Rs m ρ c r p :=
  bigSep_congr fun r hr => by rw [h r (Finset.ne_of_mem_erase hr)]

/-- A whole block as eight shares, one kept and one for each partner. -/
theorem oP_shares (c : Dev nD) (f : Buf (Elt F) ((oB c).view.loc (c : Thread nD τ))) :
    oP (F := F) c c fullShare f = iprop(oP c c (lf 0) f ∗ bigSep (Finset.univ.erase 0) fun r => oP c c (lf r) f) := by
  have h : oP (F := F) c c fullShare f = bigSep Finset.univ fun r : Fin 8 => oP c c (lf r) f := by
    unfold oP lf
    exact ShareLeaves.pointsTo_leaves _ f 3 fullShare
  rw [h, bigSep_erase (Finset.mem_univ 0)]
  rfl

/-! ## Waits -/

/-- Waiting for all seven partners at the barrier. -/
theorem st_barrier {α : Type} {c : Dev nD} {Q : α → sProp 𝕄} {ph : Fin 8 → ℕ} {Y : sProp 𝕄} {k : PUnit.{1} → Prog (TpuEff nD τ sig (Elt F) Λ₀ .tc) α}
    (h : ∀ r, r ≠ 0 → ph r = 1) {z : ℤ} (hz : z = ((7 : ℕ) : ℤ))
    (hk : St m ρ K c (fun _ => 2) (barDone c) Y ⊢ run c Q (k ⟨⟩)) :
    St m ρ K c ph (barReady c) Y ⊢ run c Q (.op (.semWait barS z) k) := by
  subst hz
  unfold St barReady barDone at *
  rw [O_same c ph 1 2 h (by omega), slots_all m ρ c ph 1 h]
  iintro ⟨#HR, #HL, ⟨%W, HO⟩, Hs, ⟨Hat, Hc⟩, HX⟩
  ihave Hi := (records_inv m ρ K (c, none)) $$ HR
  icases Hi with ⟨HI, -⟩
  iapply (Rounds.wp_wait_rest_token 𝒱₀ ER (sch m ρ) (c : Thread nD τ) none (κ := K (c, none))
      (wpE_semWait_eq 𝒱₀ (c : Thread nD τ) none Set.univ) (Set.mem_univ _) () (O := O c fun _ => 2) (W := W) (R := 0) (m := 0) (T := ∅)
      (by rw [expect_bar])) $$ [HI Hc HO Hat]
  · isplitl [HI]; · iexact HI
    isplitl [Hc]; · iexact Hc
    isplitl [HO]; · iexact HO
    isplitr
    · iapply (mayWait c (.reg barS) (fun _ => 2) 1 (by rw [lv_bar]) fun r _ => by omega); iexact HL
    iexact Hat
  iintro ⟨HO, Hat, -, Hpay⟩
  ihave Hp := (Entails.of_eq (rest_bar m ρ c)) $$ Hpay
  iapply hk
  isplitr; · iexact HR
  isplitr; · iexact HL
  isplitl [HO]; · iexists _; iexact HO
  isplitl [Hs Hp]
  · iapply (Entails.of_eq (bigSep_sep' (Finset.univ.erase 0) (fun r => barPay c r) (fun r => firstKit m ρ c r)).symm)
    isplitl [Hp]; · iexact Hp
    iexact Hs
  isplitl [Hat]; · iexact Hat
  iexact HX

/-- Waiting for a completion in slot `r`, whatever the phase holds besides. -/
theorem st_wait {α : Type} {c : Dev nD} {Q : α → sProp 𝕄} {ph : Fin 8 → ℕ} {B Y : sProp 𝕄} {k : PUnit.{1} → Prog (TpuEff nD τ sig (Elt F) Λ₀ .tc) α}
    (κ : Fin 4) (r : Fin 8) (hr : r ≠ 0) (p p' : ℕ) (hp : ph r = p) (Fr : sProp 𝕄)
    (hout : Rs m ρ c r p ⊢ iprop(pos c κ r 0 ∗ crd c κ r ∗ Fr)) (hin : iprop(pos c κ r 1 ∗ pay m ρ c κ r ∗ Fr) ⊢ Rs m ρ c r p')
    (hs : (1 ≤ p ∧ p' < 3 ∧ 1 ≤ p' ∧ p < 3) ∨ (3 ≤ p ∧ 3 ≤ p' ∧ p < 7 ∧ p' < 7) ∨ (7 ≤ p ∧ 7 ≤ p'))
    (hlev : ∀ r, r ≠ 0 → (ph r < 1 → klv κ < 1) ∧ (ph r < 3 → klv κ < 2) ∧ (ph r < 7 → klv κ < 3))
    {q : DmaSem sig} (hq : q = dsem κ r) {sp sp' : Space} {s s' : Shape} {e e' : EltTy}
    {src : Memref sig .tc sp' s' e'} {κ' : Kind} {dst : Memref sig κ' sp s e} {hsrc : src.view.WordExact} {hdst : dst.view.WordExact}
    (hN : dst.view.dmaCredit = N)
    (hk : St m ρ K c (Function.update ph r p') B Y ⊢ run c Q (k ⟨⟩)) :
    St m ρ K c ph B Y ⊢ run c Q (.op (.waitDma2 q src dst hsrc hdst) k) := by
  subst hq
  refine step m ρ r hr p p' hp (fun W => ?_) hk
  have hO : O c ph = O c (Function.update ph r p') := (O_step c ph r hr p p' hp 0 (owed_same c r p p' hs)).trans (add_zero _)
  rw [← hO]
  iintro ⟨#HR, #HL, HO, Hr⟩ Hk
  ihave Hi := (records_inv m ρ K (c, some (κ, r))) $$ HR
  icases Hi with ⟨HI, -⟩
  ihave Hr := hout $$ Hr
  icases Hr with ⟨Hat, Hc, HF⟩
  iapply (Rounds.wp_wait_rest_token 𝒱₀ ER (sch m ρ) (c : Thread nD τ) none (κ := K (c, some (κ, r)))
      (wpE_waitDma2_eq 𝒱₀ (c : Thread nD τ) none Set.univ) (Set.mem_univ _) () (O := O c ph) (W := W) (R := 0) (m := 0) (T := ∅)
      (by rw [Nat.zero_add, expect_cel m ρ c κ r hr, hN])) $$ [HI Hc HO Hat]
  · isplitl [HI]; · iexact HI
    isplitl [Hc]; · rw [hN]; iexact Hc
    isplitl [HO]; · iexact HO
    isplitr
    · iapply (mayWait c (.dma (dsem κ r)) ph (klv κ) (by rw [lv_cel]) hlev); iexact HL
    iexact Hat
  iintro ⟨HO, Hat, -, Hpay⟩
  ihave Hp := (Entails.of_eq (rest_cel m ρ c κ r hr)) $$ Hpay
  iapply Hk
  isplitl [HO]; · iexists _; iexact HO
  iapply hin
  isplitl [Hat]; · iexact Hat
  isplitl [Hp] <;> iassumption

/-- The first exchange's read side: the partner's block of the input comes back. -/
theorem st_firstSent {α : Type} {c : Dev nD} {Q : α → sProp 𝕄} {ph : Fin 8 → ℕ} {B Y : sProp 𝕄} {k : PUnit.{1} → Prog (TpuEff nD τ sig (Elt F) Λ₀ .tc) α} {q : DmaSem sig} {sp sp' : Space} {s s' : Shape} {e e' : EltTy} {src : Memref sig .tc sp' s' e'} {κ' : Kind} {dst : Memref sig κ' sp s e}
    {hsrc : src.view.WordExact} {hdst : dst.view.WordExact} (r : Fin 8) (hr : r ≠ 0) (hp : ph r = 3) (h3 : ∀ r, r ≠ 0 → 3 ≤ ph r) (hq : q = dsem 0 r) (hN : dst.view.dmaCredit = N)
    (hk : St m ρ K c (Function.update ph r 4) B Y ⊢ run c Q (k ⟨⟩)) :
    St m ρ K c ph B Y ⊢ run c Q (.op (.waitDma2 q src dst hsrc hdst) k) := by
  refine st_wait m ρ 0 r hr 3 4 hp
    iprop((pos c 1 r 0 ∗ crd c 1 r) ∗ (∃ f, oP (peer c r) c fullShare f) ∗ secondKit c r) ?_ ?_ (by omega)
    (fun r hr => by have := h3 r hr; have hk : klv 0 = 0 := rfl; omega) hq hN hk
  · simp only [Rs]
    iintro ⟨⟨Hc, Hp, Hp1, Hc1⟩, Ho⟩
    isplitl [Hp]; · iexact Hp
    isplitl [Hc]; · iexact Hc
    isplitl [Hp1 Hc1]
    · isplitl [Hp1] <;> iassumption
    iexact Ho
  · simp only [Rs, pay]
    iintro ⟨Hp, Hx, ⟨Hp1, Hc1⟩, Ho⟩
    isplitl [Hx Hp Hp1 Hc1]
    · isplitl [Hx]; · iexact Hx
      isplitl [Hp]; · iexact Hp
      isplitl [Hp1] <;> iassumption
    iexact Ho

/-- The first exchange's receive side: the partner's block arrived. -/
theorem st_firstGot {α : Type} {c : Dev nD} {Q : α → sProp 𝕄} {ph : Fin 8 → ℕ} {B Y : sProp 𝕄} {k : PUnit.{1} → Prog (TpuEff nD τ sig (Elt F) Λ₀ .tc) α} {q : DmaSem sig} {sp sp' : Space} {s s' : Shape} {e e' : EltTy} {src : Memref sig .tc sp' s' e'} {κ' : Kind} {dst : Memref sig κ' sp s e}
    {hsrc : src.view.WordExact} {hdst : dst.view.WordExact} (r : Fin 8) (hr : r ≠ 0) (hp : ph r = 4) (h3 : ∀ r, r ≠ 0 → 3 ≤ ph r) (hq : q = dsem 1 r) (hN : dst.view.dmaCredit = N)
    (hk : St m ρ K c (Function.update ph r 5) B Y ⊢ run c Q (k ⟨⟩)) :
    St m ρ K c ph B Y ⊢ run c Q (.op (.waitDma2 q src dst hsrc hdst) k) := by
  refine st_wait m ρ 1 r hr 4 5 hp
    iprop((xP m ρ c (peer c r) ∗ pos c 0 r 1) ∗ (∃ f, oP (peer c r) c fullShare f) ∗ secondKit c r) ?_ ?_ (by omega)
    (fun r hr => by have := h3 r hr; have hk : klv 1 = 2 := rfl; omega) hq hN hk
  · simp only [Rs]
    iintro ⟨⟨Hx, Hp, Hp1, Hc1⟩, Ho⟩
    isplitl [Hp1]; · iexact Hp1
    isplitl [Hc1]; · iexact Hc1
    isplitl [Hx Hp]
    · isplitl [Hx] <;> iassumption
    iexact Ho
  · simp only [Rs, pay]; unfold firstDone
    iintro ⟨Hp1, Hl, ⟨Hx, Hp⟩, Ho⟩
    isplitl [Hl Hx Hp Hp1]
    · isplitl [Hx]; · iexact Hx
      isplitl [Hp]; · iexact Hp
      isplitl [Hp1]; · iexact Hp1
      iexact Hl
    iexact Ho

/-- The second exchange's read side: the share of the finished block comes back. -/
theorem st_secondSent {α : Type} {c : Dev nD} {Q : α → sProp 𝕄} {ph : Fin 8 → ℕ} {B Y : sProp 𝕄} {k : PUnit.{1} → Prog (TpuEff nD τ sig (Elt F) Λ₀ .tc) α} {q : DmaSem sig} {sp sp' : Space} {s s' : Shape} {e e' : EltTy} {src : Memref sig .tc sp' s' e'} {κ' : Kind} {dst : Memref sig κ' sp s e}
    {hsrc : src.view.WordExact} {hdst : dst.view.WordExact} (r : Fin 8) (hr : r ≠ 0) (hp : ph r = 7) (h7 : ∀ r, r ≠ 0 → 7 ≤ ph r) (hq : q = dsem 2 r) (hN : dst.view.dmaCredit = N)
    (hk : St m ρ K c (Function.update ph r 8) B Y ⊢ run c Q (k ⟨⟩)) :
    St m ρ K c ph B Y ⊢ run c Q (.op (.waitDma2 q src dst hsrc hdst) k) := by
  refine st_wait m ρ 2 r hr 7 8 hp iprop(firstDone m ρ c r ∗ pos c 3 r 0 ∗ crd c 3 r) ?_ ?_ (by omega)
    (fun r hr => by have := h7 r hr; omega) hq hN hk
  · simp only [Rs]
    iintro ⟨Hd, Hc, Hp, Hp3, Hc3⟩
    isplitl [Hp]; · iexact Hp
    isplitl [Hc]; · iexact Hc
    isplitl [Hd]; · iexact Hd
    isplitl [Hp3] <;> iassumption
  · simp only [Rs, pay]
    iintro ⟨Hp, Hy, Hd, Hp3, Hc3⟩
    isplitl [Hd]; · iexact Hd
    isplitl [Hy]; · iexact Hy
    isplitl [Hp]; · iexact Hp
    isplitl [Hp3] <;> iassumption

/-- The second exchange's receive side: the partner's finished block arrived. -/
theorem st_secondGot {α : Type} {c : Dev nD} {Q : α → sProp 𝕄} {ph : Fin 8 → ℕ} {B Y : sProp 𝕄} {k : PUnit.{1} → Prog (TpuEff nD τ sig (Elt F) Λ₀ .tc) α} {q : DmaSem sig} {sp sp' : Space} {s s' : Shape} {e e' : EltTy} {src : Memref sig .tc sp' s' e'} {κ' : Kind} {dst : Memref sig κ' sp s e}
    {hsrc : src.view.WordExact} {hdst : dst.view.WordExact} (r : Fin 8) (hr : r ≠ 0) (hp : ph r = 8) (h7 : ∀ r, r ≠ 0 → 7 ≤ ph r) (hq : q = dsem 3 r) (hN : dst.view.dmaCredit = N)
    (hk : St m ρ K c (Function.update ph r 9) B Y ⊢ run c Q (k ⟨⟩)) :
    St m ρ K c ph B Y ⊢ run c Q (.op (.waitDma2 q src dst hsrc hdst) k) := by
  refine st_wait m ρ 3 r hr 8 9 hp iprop(firstDone m ρ c r ∗ oP c c (lf r) (result m ρ) ∗ pos c 2 r 1) ?_ ?_ (by omega)
    (fun r hr => by have := h7 r hr; omega) hq hN hk
  · simp only [Rs]
    iintro ⟨Hd, Hy, Hp, Hp3, Hc3⟩
    isplitl [Hp3]; · iexact Hp3
    isplitl [Hc3]; · iexact Hc3
    isplitl [Hd]; · iexact Hd
    isplitl [Hy] <;> iassumption
  · simp only [Rs, pay]
    iintro ⟨Hp3, Ho, Hd, Hy, Hp⟩
    isplitl [Hd]; · iexact Hd
    isplitl [Hy]; · iexact Hy
    isplitl [Hp]; · iexact Hp
    isplitl [Hp3]; · iexact Hp3
    iexact Ho

/-! ## Loads and the store -/

/-- Reading the device's own block of the input. -/
theorem st_loadOwn {α : Type} {c : Dev nD} {Q : α → sProp 𝕄} {ph : Fin 8 → ℕ} {B Y : sProp 𝕄}
    {off : Fin 2 → ℕ} {ho : ∀ a, off a + S32x256.size a ≤ S256x256.size a} (hoff : off = ![32 * c.val, 0])
    {hl : xM.view.LoadsAt (Rect.unit (s := S256x256) off S32x256.size ho).toLoadRect}
    {k : Vec F S32x256 .f32 → Prog (TpuEff nD τ sig (Elt F) Λ₀ .tc) α}
    (hk : St m ρ K c ph B Y ⊢ run c Q (k (piece m ρ c c))) :
    St m ρ K c ph B Y ⊢ run c Q (.op (.load xM (Rect.unit (s := S256x256) off S32x256.size ho).toLoadRect hl) k) := by
  subst hoff
  unfold St xP at *
  iintro ⟨#HR, #HL, HO, Hs, HB, HY, Hx⟩
  iapply (wp_load_rect 𝒱₀ (c : Thread nD τ) none Set.univ (m := xM) (r := blkR c) (Finset.Subset.refl _)) $$ Hx
  iintro Hx
  iapply hk
  isplitr; · iexact HR
  isplitr; · iexact HL
  isplitl [HO]; · iexact HO
  isplitl [Hs]; · iexact Hs
  isplitl [HB]; · iexact HB
  isplitl [HY]; · iexact HY
  iexact Hx

/-- Reading slot `r` once the partner's block is there: as 32 rows it is the partner's block. -/
theorem st_loadSlot {α : Type} {c : Dev nD} {Q : α → sProp 𝕄} {ph : Fin 8 → ℕ} {B Y : sProp 𝕄}
    (r : Fin 8) (hr : r ≠ 0) (hp : ph r = 5)
    {off : Fin 3 → ℕ} {ho : ∀ a, off a + S1x32x256.size a ≤ S8x32x256.size a} (hoff : off = ![r.val, 0, 0])
    {hl : sM.view.LoadsAt (Rect.unit (s := S8x32x256) off S1x32x256.size ho).toLoadRect}
    {k : Vec F S1x32x256 .f32 → Prog (TpuEff nD τ sig (Elt F) Λ₀ .tc) α}
    (hk : ∀ v : Vec F S1x32x256 .f32, shapeCast S32x256 v shapeCasts_S1x32x256_S32x256 = piece m ρ (peer c r) c →
      St m ρ K c ph B Y ⊢ run c Q (k v)) :
    St m ρ K c ph B Y ⊢ run c Q (.op (.load sM (Rect.unit (s := S8x32x256) off S1x32x256.size ho).toLoadRect hl) k) := by
  subst hoff
  unfold St at *
  rw [slots_split m ρ c ph r hr 5 hp] at *
  simp only [Rs] at hk ⊢
  unfold firstDone landed sP at *
  iintro ⟨#HR, #HL, HO, ⟨Hr, Hs⟩, HX⟩
  icases Hr with ⟨⟨Hx, Hp, Hp1, ⟨%f, %hf, Hl⟩⟩, Hrest⟩
  iapply (wp_load_rect 𝒱₀ (c : Thread nD τ) none Set.univ (m := sM) (r := slotR r) (S := (sB r).view.set)
    (by rw [sB_set]; exact (View.set_slice_whole cc0_scratch0 (slotR r)).subset)) $$ Hl
  iintro Hl
  iapply (hk ((sM.access (slotR r)).read (Elt F) f) hf)
  isplitr; · iexact HR
  isplitr; · iexact HL
  isplitl [HO]; · iexact HO
  isplitl [Hx Hp Hp1 Hl Hrest Hs]
  · isplitl [Hx Hp Hp1 Hl Hrest]
    · isplitl [Hx Hp Hp1 Hl]
      · isplitl [Hx]; · iexact Hx
        isplitl [Hp]; · iexact Hp
        isplitl [Hp1]; · iexact Hp1
        iexists f
        isplitr; · ipureintro; exact hf
        iexact Hl
      iexact Hrest
    iexact Hs
  iexact HX

/-- Reading the device's own block of the result, whatever it holds. -/
theorem st_loadOut {α : Type} {c : Dev nD} {Q : α → sProp 𝕄} {ph : Fin 8 → ℕ} {B : sProp 𝕄}
    {off : Fin 2 → ℕ} {ho : ∀ a, off a + S32x256.size a ≤ S256x256.size a} (hoff : off = ![32 * c.val, 0])
    {hl : oM.view.LoadsAt (Rect.unit (s := S256x256) off S32x256.size ho).toLoadRect}
    {k : Vec F S32x256 .f32 → Prog (TpuEff nD τ sig (Elt F) Λ₀ .tc) α}
    (hk : ∀ v : Vec F S32x256 .f32, St m ρ K c ph B iprop(∃ f, oP c c fullShare f) ⊢ run c Q (k v)) :
    St m ρ K c ph B iprop(∃ f, oP c c fullShare f) ⊢ run c Q (.op (.load oM (Rect.unit (s := S256x256) off S32x256.size ho).toLoadRect hl) k) := by
  subst hoff
  unfold St oP at *
  iintro ⟨#HR, #HL, HO, Hs, HB, ⟨%f, HY⟩, Hx⟩
  iapply (wp_load_rect 𝒱₀ (c : Thread nD τ) none Set.univ (m := oM) (r := blkR c) (Finset.Subset.refl _)) $$ HY
  iintro HY
  iapply (hk _)
  isplitr; · iexact HR
  isplitr; · iexact HL
  isplitl [HO]; · iexact HO
  isplitl [Hs]; · iexact Hs
  isplitl [HB]; · iexact HB
  isplitl [HY]; · iexists f; iexact HY
  iexact Hx

/-- Storing the finished block, and cutting it into the shares the sends read. -/
theorem st_store {α : Type} {c : Dev nD} {Q : α → sProp 𝕄} {ph : Fin 8 → ℕ} {B : sProp 𝕄}
    (h : ∀ r, r ≠ 0 → ph r = 5) {w : FVec F S32x256 .f32} (hw : w = total m ρ c)
    {off : Fin 2 → ℕ} {ho : ∀ a, off a + S32x256.size a ≤ S256x256.size a} (hoff : off = ![32 * c.val, 0])
    {hx : (oM.access (Rect.unit (s := S256x256) off S32x256.size ho)).Stores Finset.univ}
    {hm : (Finset.univ : Finset (Rect.unit (s := S256x256) off S32x256.size ho).shape.Idx) = Finset.univ ∨ ∀ a, (Rect.unit (s := S256x256) off S32x256.size ho).stride a = 1}
    {k : PUnit.{1} → Prog (TpuEff nD τ sig (Elt F) Λ₀ .tc) α}
    (hk : St m ρ K c (fun _ => 6) B (oP c c (lf 0) (result m ρ)) ⊢ run c Q (k ⟨⟩)) :
    St m ρ K c ph B iprop(∃ f, oP c c fullShare f) ⊢ run c Q (.op (.store oM (Rect.unit (s := S256x256) off S32x256.size ho) w Finset.univ hx hm) k) := by
  subst hoff
  unfold St at *
  rw [O_same c ph 5 6 h (by omega), slots_all m ρ c ph 5 h]
  iintro ⟨#HR, #HL, HO, Hs, HB, ⟨%f, HY⟩, Hx⟩
  unfold oP
  iapply (wp_store 𝒱₀ (c : Thread nD τ) none Set.univ (m := oM) (r := blkR c) (Mk := Finset.univ) (S := (oB c).view.set) (Finset.Subset.refl _)) $$ HY
  have hY : ((oM.access (blkR c)).loc (c : Thread nD τ) ↦[(oB c).view.set]{fullShare} (oM.access (blkR c)).write (Elt F) f w Finset.univ : sProp 𝕄)
      = iprop(oP c c (lf 0) (result m ρ) ∗ bigSep (Finset.univ.erase 0) fun r => oP c c (lf r) (result m ρ)) :=
    (oP_write m ρ c c f w hw).trans (oP_shares c (result m ρ))
  iintro HY
  ihave HY := (Entails.of_eq hY) $$ HY
  icases HY with ⟨HY, Hys⟩
  iapply hk
  isplitr; · iexact HR
  isplitr; · iexact HL
  isplitl [HO]; · iexact HO
  isplitl [Hs Hys]
  · iapply (Entails.of_eq (bigSep_sep' (Finset.univ.erase 0) (fun r => oP c c (lf r) (result m ρ)) (fun r => Rs m ρ c r 5)).symm)
    isplitl [Hys]; · iexact Hys
    iexact Hs
  isplitl [HB]; · iexact HB
  isplitl [HY]; · iexact HY
  iexact Hx

end Cert.AllReduce

end
-- ==== Proof.Ends.lean ====
/- A device's buffers and semaphores taken apart at its start and put together at its end. -/
module

public import proofs.«01_k».proof.Proof.Waits

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Families of assertions, taken apart -/

/-- A family over the semaphores of the protocol: the barrier's, and the kernel's own. -/
theorem over_own {M : Type} [URA M] (Φ : Cx → sProp M) :
    bigSep Finset.univ Φ = iprop(Φ none ∗ bigSep Finset.univ fun kr : Fin 4 × Fin 8 => Φ (some kr)) := by
  have hs : (Finset.univ : Finset Cx).erase none = (Finset.univ : Finset (Fin 4 × Fin 8)).map Function.Embedding.some := by
    ext x
    rcases x with _ | x <;> simp
  rw [bigSep_erase (Finset.mem_univ none), hs, bigSep_map]
  rfl

/-- The same, the own ones slot by slot. -/
theorem over_cells {M : Type} [URA M] (Φ : Cx → sProp M) :
    bigSep Finset.univ Φ = iprop(Φ none ∗ bigSep Finset.univ fun r : Fin 8 =>
      iprop(Φ (some (0, r)) ∗ Φ (some (1, r)) ∗ Φ (some (2, r)) ∗ Φ (some (3, r)))) := by
  have h4 (Ψ : Fin 4 → sProp M) : bigSep Finset.univ Ψ = iprop(Ψ 0 ∗ Ψ 1 ∗ Ψ 2 ∗ Ψ 3) :=
    bigSep_univ_eq_bigSepL [0, 1, 2, 3] (by decide) (by decide) Ψ
  rw [over_own, bigSep_univ_prod, Idealize.SL.BI.bigSep_univ_comm]
  exact congrArg (fun X => iprop(Φ none ∗ X)) (bigSep_congr fun r _ => h4 fun k => Φ (some (k, r)))

/-- A family over the slots: slot 0's and the others'. -/
theorem over_slots {M : Type} [URA M] (Φ : Fin 8 → sProp M) :
    bigSep Finset.univ Φ = iprop(Φ 0 ∗ bigSep (Finset.univ.erase 0) Φ) := by
  rw [bigSep_erase (Finset.mem_univ 0)]
  rfl

/-- A family over the devices, seen from `c`: its own and its partners'. -/
theorem over_peers {M : Type} [URA M] (c : Dev nD) (Φ : Dev nD → sProp M) :
    bigSep Finset.univ Φ = iprop(Φ c ∗ bigSep (Finset.univ.erase 0) fun r => Φ (peer c r)) := by
  rw [bigSep_univ_equiv (fan c) Φ, over_slots]
  have h : (fan c) 0 = c := peer_zero c
  rw [h]
  rfl

/-! ## Buffers, taken apart and put together -/

variable (m : (ℓ : Loc nD τ sig) → Buf (Elt F) ℓ) (ρ : Dev nD → PrngReg)

omit [FloatOps F] in
/-- A buffer of the input's shape, block by block. -/
theorem x_blocks (c : Dev nD) :
    ((c : Thread nD τ).loc cc0_stg0_0 ↦{fullShare} xstg m ρ c : sProp 𝕄)
      = iprop(xP m ρ c c ∗ bigSep (Finset.univ.erase 0) fun r => xP m ρ c (peer c r)) := by
  rw [← over_peers c (xP m ρ c)]
  refine (Ring.pointsTo_blocks (ℓ := (c : Thread nD τ).loc cc0_stg0_0) (fun b : Dev nD => (blkR b).set) blkR_disjoint blkR_cover (xstg m ρ c)).trans ?_
  exact bigSep_congr fun b _ => by unfold xP; rw [xB_set]

omit [FloatOps F] in
/-- The result's buffer, block by block. -/
theorem o_blocks (c : Dev nD) (f : (cc0_stg1_0 : Ref sig .tc).ty.Contents (Elt F)) :
    ((c : Thread nD τ).loc cc0_stg1_0 ↦{fullShare} f : sProp 𝕄)
      = iprop(oP c c fullShare f ∗ bigSep (Finset.univ.erase 0) fun r => oP c (peer c r) fullShare f) := by
  rw [← over_peers c (fun b => oP (F := F) c b fullShare f)]
  refine (Ring.pointsTo_blocks (ℓ := (c : Thread nD τ).loc cc0_stg1_0) (fun b : Dev nD => (blkR b).set) blkR_disjoint blkR_cover f).trans ?_
  exact bigSep_congr fun b _ => by unfold oP; rw [oB_set]

omit [FloatOps F] in
/-- The landing buffer, slot by slot. -/
theorem s_slots (c : Dev nD) (f : (cc0_scratch0 : Ref sig .tc).ty.Contents (Elt F)) :
    ((c : Thread nD τ).loc cc0_scratch0 ↦{fullShare} f : sProp 𝕄)
      = iprop(sP c 0 f ∗ bigSep (Finset.univ.erase 0) fun r => sP c r f) := by
  rw [← over_slots (fun r => sP (F := F) c r f)]
  refine (Ring.pointsTo_blocks (ℓ := (c : Thread nD τ).loc cc0_scratch0) (fun r : Fin 8 => (slotR r).set) slotR_disjoint slotR_cover f).trans ?_
  exact bigSep_congr fun r _ => by unfold sP; rw [sB_set]

omit [FloatOps F] in
/-- Its slots at contents of their own make the buffer at some contents. -/
theorem s_join (c : Dev nD) (f₀ : (cc0_scratch0 : Ref sig .tc).ty.Contents (Elt F)) :
    iprop(sP c 0 f₀ ∗ bigSep (Finset.univ.erase 0) fun r => landed m ρ c r)
      ⊢ (iprop(∃ f, (c : Thread nD τ).loc cc0_scratch0 ↦{fullShare} f) : sProp 𝕄) := by
  have h : (bigSep Finset.univ fun r : Fin 8 => iprop(∃ f, sP (F := F) c r f))
      ⊢ (iprop(∃ f, (c : Thread nD τ).loc cc0_scratch0 ↦{fullShare} f) : sProp 𝕄) := by
    refine BIBase.Entails.trans (Entails.of_eq ?_)
      (Ring.pointsTo_blocks_join_exists (ℓ := (c : Thread nD τ).loc cc0_scratch0) (fun r : Fin 8 => (slotR r).set) slotR_disjoint slotR_cover f₀)
    have hs (r : Fin 8) (f) : sP (F := F) c r f = ((c : Thread nD τ).loc cc0_scratch0 ↦[(slotR r).set]{fullShare} f : sProp 𝕄) := by
      unfold sP; rw [sB_set]
    exact bigSep_congr fun r _ => congrArg (fun Φ => iprop(∃ f, Φ f)) (funext (hs r))
  refine BIBase.Entails.trans ?_ h
  rw [over_slots]
  have h0 : sP (F := F) c 0 f₀ ⊢ iprop(∃ f, sP (F := F) c 0 f) := by iintro H; iexists f₀; iexact H
  have h1 (r : Fin 8) : landed m ρ c r ⊢ iprop(∃ f, sP (F := F) c r f) := by
    unfold landed
    iintro ⟨%f, -, H⟩; iexists f; iexact H
  exact Idealize.SL.BI.sep_mono h0 (bigSep_mono fun r _ => h1 r)

/-! ## What a device starts from -/

/-- The tokens device `c` pays with in slot `r`. -/
def dealt (c : Dev nD) (r : Fin 8) : sProp 𝕄 :=
  iprop(tok (bar (peer c r)) r ∗ tok (cel c 0 r) 0 ∗ tok (cel (peer c r) 1 r) 0 ∗ tok (cel c 2 r) 0 ∗ tok (cel (peer c r) 3 r) 0)

/-- Its positions in slot `r`, before any completion. -/
def posns (c : Dev nD) (r : Fin 8) (n : ℕ) : sProp 𝕄 := iprop(pos c 0 r n ∗ pos c 1 r n ∗ pos c 2 r n ∗ pos c 3 r n)

/-- The credits of its receive cells in slot `r`. -/
def crds (c : Dev nD) (r : Fin 8) : sProp 𝕄 := iprop(crd c 1 r ∗ crd c 3 r)

/-- One slot at its start. -/
theorem slot_start (c : Dev nD) (r : Fin 8) (f : (cc0_scratch0 : Ref sig .tc).ty.Contents (Elt F)) (g : (cc0_stg1_0 : Ref sig .tc).ty.Contents (Elt F)) :
    iprop(dealt c r ∗ posns c r 0 ∗ crds c r ∗ xP m ρ c (peer c r) ∗ oP c (peer c r) fullShare g ∗ sP c r f) ⊢ Rs m ρ c r 0 := by
  simp only [Rs]
  unfold dealt posns crds lent firstKit secondKit
  iintro ⟨⟨Tb, T0, T1, T2, T3⟩, ⟨P0, P1, P2, P3⟩, ⟨C1, C3⟩, HX, HO, HS⟩
  isplitl [Tb]; · iexact Tb
  isplitl [HO HS]
  · isplitl [HS]
    · iexists f; iexact HS
    · iexists g; iexact HO
  isplitl [T0 T1 P0 P1 C1 HX]
  · isplitl [HX]; · iexact HX
    isplitl [T0]; · iexact T0
    isplitl [T1]; · iexact T1
    isplitl [P0]; · iexact P0
    isplitl [P1]; · iexact P1
    iexact C1
  · isplitl [T2]; · iexact T2
    isplitl [T3]; · iexact T3
    isplitl [P2]; · iexact P2
    isplitl [P3]; · iexact P3
    iexact C3

/-- All slots at their start. -/
theorem slots_start (c : Dev nD) (f : (cc0_scratch0 : Ref sig .tc).ty.Contents (Elt F)) (g : (cc0_stg1_0 : Ref sig .tc).ty.Contents (Elt F)) :
    iprop((bigSep (Finset.univ.erase 0) fun r => dealt c r) ∗ (bigSep (Finset.univ.erase 0) fun r => posns c r 0)
        ∗ (bigSep (Finset.univ.erase 0) fun r => crds c r) ∗ (bigSep (Finset.univ.erase 0) fun r => xP m ρ c (peer c r))
        ∗ (bigSep (Finset.univ.erase 0) fun r => oP c (peer c r) fullShare g) ∗ bigSep (Finset.univ.erase 0) fun r => sP c r f)
      ⊢ (bigSep (Finset.univ.erase 0) fun r => Rs m ρ c r 0 : sProp 𝕄) := by
  rw [← bigSep_sep', ← bigSep_sep', ← bigSep_sep', ← bigSep_sep', ← bigSep_sep']
  exact bigSep_mono fun r _ => slot_start m ρ c r f g

/-- One slot at its end. -/
theorem slot_end (c : Dev nD) (r : Fin 8) :
    Rs m ρ c r 9 ⊢ (iprop(posns c r 1 ∗ xP m ρ c (peer c r) ∗ landed m ρ c r ∗ oP c c (lf r) (result m ρ) ∗ oP c (peer c r) fullShare (result m ρ)) : sProp 𝕄) := by
  simp only [Rs]
  unfold firstDone posns
  iintro ⟨⟨HX, P0, P1, HL⟩, HY, P2, P3, HO⟩
  isplitl [P0 P1 P2 P3]
  · isplitl [P0]; · iexact P0
    isplitl [P1]; · iexact P1
    isplitl [P2]; · iexact P2
    iexact P3
  isplitl [HX]; · iexact HX
  isplitl [HL]; · iexact HL
  isplitl [HY]; · iexact HY
  iexact HO

/-- All slots at their end. -/
theorem slots_end (c : Dev nD) :
    (bigSep (Finset.univ.erase 0) fun r => Rs m ρ c r 9 : sProp 𝕄)
      ⊢ iprop((bigSep (Finset.univ.erase 0) fun r => posns c r 1) ∗ (bigSep (Finset.univ.erase 0) fun r => xP m ρ c (peer c r))
        ∗ (bigSep (Finset.univ.erase 0) fun r => landed m ρ c r) ∗ (bigSep (Finset.univ.erase 0) fun r => oP c c (lf r) (result m ρ))
        ∗ bigSep (Finset.univ.erase 0) fun r => oP c (peer c r) fullShare (result m ρ)) := by
  rw [← bigSep_sep', ← bigSep_sep', ← bigSep_sep', ← bigSep_sep']
  exact bigSep_mono fun r _ => slot_end m ρ c r

/-! ## The semaphores, given back -/

/-- A cell past its last duty closes: its semaphore, at zero, is the device's again. -/
theorem close (K : Dev nD × Cx → ℕ) (x : Dev nD × Cx) (n : ℕ) (hn : ∀ n', n ≤ n' → (sch (F := F) m ρ).duties (kcell x) n' = ∅) :
    iprop(records m ρ K ∗ atPos ER (kcell x) n ∅ 0) ⊢ (|={Set.univ}=> semVal (kcell x) 0 : sProp 𝕄) := by
  refine BIBase.Entails.trans (sep_mono_left (records_inv m ρ K x)) ?_
  iintro ⟨⟨HI, -⟩, HP⟩
  iapply (Rounds.cell_close ER (sch m ρ) (Set.mem_univ (K x)) (fun h => h) (R := n) hn)
  isplitl [HI] <;> iassumption

/-- The four cells of a slot close. -/
theorem close_slot (K : Dev nD × Cx → ℕ) (c : Dev nD) (r : Fin 8) (n : ℕ) (hn : ∀ k n', n ≤ n' → (sch (F := F) m ρ).duties (cel c k r) n' = ∅) :
    iprop(records m ρ K ∗ posns c r n)
      ⊢ (|={Set.univ}=> iprop(semVal (cel c 0 r) 0 ∗ semVal (cel c 1 r) 0 ∗ semVal (cel c 2 r) 0 ∗ semVal (cel c 3 r) 0) : sProp 𝕄) := by
  unfold posns
  iintro ⟨#HR, P0, P1, P2, P3⟩
  imod (close m ρ K (c, some (0, r)) n (hn 0)) $$ [P0] with V0
  · isplitr; · iexact HR
    iexact P0
  imod (close m ρ K (c, some (1, r)) n (hn 1)) $$ [P1] with V1
  · isplitr; · iexact HR
    iexact P1
  imod (close m ρ K (c, some (2, r)) n (hn 2)) $$ [P2] with V2
  · isplitr; · iexact HR
    iexact P2
  imod (close m ρ K (c, some (3, r)) n (hn 3)) $$ [P3] with V3
  · isplitr; · iexact HR
    iexact P3
  imodintro
  isplitl [V0]; · iexact V0
  isplitl [V1]; · iexact V1
  isplitl [V2]; · iexact V2
  iexact V3

omit [FloatOps F] in
/-- What holds of each member with a persistent record holds of the family with it. -/
theorem with_record {I : Type} [DecidableEq I] (S : Finset I) {R : sProp 𝕄} [BI.Persistent R] {Φ Ψ : I → sProp 𝕄}
    (h : ∀ i ∈ S, iprop(R ∗ Φ i) ⊢ Ψ i) : iprop(R ∗ bigSep S Φ) ⊢ bigSep S Ψ := by
  refine (sep_mono_left (BI.bigSep_of_persistent S R)).trans ?_
  rw [← bigSep_sep']
  exact bigSep_mono h

/-- All of a device's cells close at the end. -/
theorem close_all (K : Dev nD × Cx → ℕ) (c : Dev nD) :
    iprop(records m ρ K ∗ barDone c ∗ posns c 0 0 ∗ bigSep (Finset.univ.erase 0) fun r => posns c r 1)
      ⊢ (|={Set.univ}=> (bigSep Finset.univ fun x : Cx => semVal (kcell (c, x)) 0) : sProp 𝕄) := by
  rw [over_cells, over_slots]
  unfold barDone
  iintro ⟨#HR, HB, H0, Hs⟩
  imod (close m ρ K (c, none) 1 (duties_later m ρ (bar c))) $$ [HB] with VB
  · isplitr; · iexact HR
    iexact HB
  imod (close_slot m ρ K c 0 0 (fun k n' _ => duties_slot0 m ρ c k n')) $$ [H0] with V0
  · isplitr; · iexact HR
    iexact H0
  imod ((with_record (Finset.univ.erase (0 : Fin 8)) (fun r _ => close_slot m ρ K c r 1 (fun k => duties_later m ρ (cel c k r)))).trans (bigSep_fupd _ _)) $$ [Hs] with Vs
  · isplitr; · iexact HR
    iexact Hs
  imodintro
  isplitl [VB]; · iexact VB
  isplitl [V0]; · iexact V0
  iexact Vs

end Cert.AllReduce

end
-- ==== Proof.Body.lean ====
/- The body of the kernel, run part by part on the state of a device. -/
module

public import proofs.«01_k».proof.Proof.Waits
public import Idealize.ShloMosaic.Lib.Pipeline.Value

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) {K : Dev nD × Cx → ℕ}

/-- The sums a device reaches: its own piece, then its partners' in the order it waits for them. -/
def sum0 (c : Dev nD) : FVec F S32x256 .f32 := piece m ρ c c
/-- After two partners; -/
def sum2 (c : Dev nD) : FVec F S32x256 .f32 := addf (addf (sum0 m ρ c) (piece m ρ (peer c 1) c)) (piece m ρ (peer c 3) c)
/-- after three; -/
def sum3 (c : Dev nD) : FVec F S32x256 .f32 := addf (sum2 m ρ c) (piece m ρ (peer c 4) c)
/-- after five. -/
def sum5 (c : Dev nD) : FVec F S32x256 .f32 := addf (addf (sum3 m ρ c) (piece m ρ (peer c 2) c)) (piece m ρ (peer c 5) c)

/-- The end of a part. -/
theorem st_ret {α : Type} {c : Dev nD} {Q : α → sProp 𝕄} {ph : Fin 8 → ℕ} {B Y : sProp 𝕄} {a : α} (ph' : Fin 8 → ℕ) (h : ph = ph')
    (hQ : St m ρ K c ph' B Y ⊢ Q a) : St m ρ K c ph B Y ⊢ run c Q (.ret a) := by
  subst h
  exact hQ.trans (le_wp_ret _ _ _ _ _)

/-- Six barrier signals. -/
theorem part1 {c : Dev nD} {B Y : sProp 𝕄} {h0 : xM.IsWhole} {h1 : oM.IsWhole} {h2 : sM.IsWhole} {Q : (Σ' (d0 : Dev nD) (v2 : BitVec 32) (v3 : Sems sig S_), BitVec 32) → sProp 𝕄}
    (hQ : ∀ v2 v23 : BitVec 32, St m ρ K c ![0, 1, 1, 1, 1, 1, 1, 0] B Y ⊢ Q ⟨c, v2, SemArray.scalar (sig.barrier 0 rfl), v23⟩) :
    St m ρ K c (fun _ => 0) B Y ⊢ run c Q (k0_part1 (F := F) xM h0 oM h1 sM h2 cc0_scratch1 cc0_scratch2 cc0_scratch3 cc0_scratch4 ) := by
  rw [k0_part1_eq_skeleton]
  unfold k0_part1_skel
  simp only [run, semSignalWord, semWaitWord, Prog.lift, Prog.bind_op, Prog.bind_ret, Prog.pure_eq_ret, wp_deviceId]
  refine st_signal m ρ 1 (by decide) (by decide) (dev1_eq c) rfl ?_
  refine st_signal m ρ 2 (by decide) (by decide) (dev2_eq c) rfl ?_
  refine st_signal m ρ 3 (by decide) (by decide) (dev3_eq c) rfl ?_
  refine st_signal m ρ 4 (by decide) (by decide) (dev4_eq c) rfl ?_
  refine st_signal m ρ 5 (by decide) (by decide) (dev5_eq c) rfl ?_
  refine st_signal m ρ 6 (by decide) (by decide) (dev6_eq c) rfl ?_
  exact st_ret m ρ ![0, 1, 1, 1, 1, 1, 1, 0] (by decide) (hQ _ _)

/-- The last barrier signal, the barrier wait, and two sends of the first exchange. -/
theorem part2 {c : Dev nD} {Y : sProp 𝕄} {h0 : xM.IsWhole} {h1 : oM.IsWhole} {h2 : sM.IsWhole} {a1 a2 : BitVec 32} {Q : (Σ' (v25 : BitVec 32) (v36 : BitVec 32) (v47 : BitVec 32) (v49 : BitVec 32), BitVec 32) → sProp 𝕄}
    (hQ : ∀ w1 w2 w3 w4 w5 : BitVec 32, St m ρ K c ![2, 2, 3, 2, 2, 2, 3, 2] (barDone c) Y ⊢ Q ⟨w1, w2, w3, w4, w5⟩) :
    St m ρ K c ![0, 1, 1, 1, 1, 1, 1, 0] (barReady c) Y ⊢ run c Q (k0_part2 (F := F) xM h0 oM h1 sM h2 cc0_scratch1 cc0_scratch2 cc0_scratch3 cc0_scratch4 c a1 (SemArray.scalar (sig.barrier 0 rfl)) a2) := by
  rw [k0_part2_eq_skeleton]
  unfold k0_part2_skel
  simp only [run, semSignalWord, semWaitWord, Prog.lift, Prog.bind_op, Prog.bind_ret, Prog.pure_eq_ret]
  refine st_signal m ρ 7 (by decide) (by decide) (dev7_eq c) rfl ?_
  refine st_barrier m ρ (by decide) rfl ?_
  refine st_first m ρ 6 (by decide) (by decide) (dev8_eq c) (off1_eq c 6) rfl rfl rfl ?_
  refine st_first m ρ 2 (by decide) (by decide) (dev9_eq c) (off1_eq c 2) rfl rfl rfl ?_
  exact st_ret m ρ ![2, 2, 3, 2, 2, 2, 3, 2] (by decide) (hQ _ _ _ _ _)

/-- Three sends of the first exchange. -/
theorem part3 {c : Dev nD} {B Y : sProp 𝕄} {h0 : xM.IsWhole} {h1 : oM.IsWhole} {h2 : sM.IsWhole} {a1 a2 a3 : BitVec 32} {Q : (Σ' (v58 : BitVec 32) (v69 : BitVec 32), BitVec 32) → sProp 𝕄}
    (hQ : ∀ w1 w2 w3 : BitVec 32, St m ρ K c ![2, 2, 3, 3, 2, 3, 3, 3] B Y ⊢ Q ⟨w1, w2, w3⟩) :
    St m ρ K c ![2, 2, 3, 2, 2, 2, 3, 2] B Y ⊢ run c Q (k0_part3 (F := F) xM h0 oM h1 sM h2 cc0_scratch1 cc0_scratch2 cc0_scratch3 cc0_scratch4 c a1 a2 a3) := by
  rw [k0_part3_eq_skeleton]
  unfold k0_part3_skel
  simp only [run, semSignalWord, semWaitWord, Prog.lift, Prog.bind_op, Prog.bind_ret, Prog.pure_eq_ret]
  refine st_first m ρ 5 (by decide) (by decide) (dev10_eq c) (off1_eq c 5) rfl rfl rfl ?_
  refine st_first m ρ 7 (by decide) (by decide) (dev11_eq c) (off1_eq c 7) rfl rfl rfl ?_
  refine st_first m ρ 3 (by decide) (by decide) (dev12_eq c) (off1_eq c 3) rfl rfl rfl ?_
  exact st_ret m ρ ![2, 2, 3, 3, 2, 3, 3, 3] (by decide) (hQ _ _ _)

/-- Its last two sends, the load of the device's own piece, and the first wait. -/
theorem part4 {c : Dev nD} {B Y : sProp 𝕄} {h0 : xM.IsWhole} {h1 : oM.IsWhole} {h2 : sM.IsWhole} {a1 a2 : BitVec 32} {Q : (Σ' (v91 : BitVec 32), FVec F S32x256 .f32) → sProp 𝕄}
    (hQ : ∀ w1 : BitVec 32, St m ρ K c ![2, 4, 3, 3, 3, 3, 3, 3] B Y ⊢ Q ⟨w1, sum0 m ρ c⟩) :
    St m ρ K c ![2, 2, 3, 3, 2, 3, 3, 3] B Y ⊢ run c Q (k0_part4 (F := F) xM h0 oM h1 sM h2 cc0_scratch1 cc0_scratch2 cc0_scratch3 cc0_scratch4 c a1 a2) := by
  rw [k0_part4_eq_skeleton]
  unfold k0_part4_skel
  simp only [run, semSignalWord, semWaitWord, Prog.lift, Prog.bind_op, Prog.bind_ret, Prog.pure_eq_ret]
  refine st_first m ρ 4 (by decide) (by decide) (dev13_eq c) (off1_eq c 4) rfl rfl rfl ?_
  refine st_first m ρ 1 (by decide) (by decide) (dev14_eq c) (off1_eq c 1) rfl rfl rfl ?_
  refine st_loadOwn m ρ (k0_off2_eq c) ?_
  refine st_firstSent m ρ 1 (by decide) (by decide) (by decide) rfl rfl ?_
  rw [show k0_pay1 (piece m ρ c c) = sum0 m ρ c from shapeCast_self _ _]
  exact st_ret m ρ ![2, 4, 3, 3, 3, 3, 3, 3] (by decide) (hQ _)

/-- The pieces of slots 1 and 3. -/
theorem part5 {c : Dev nD} {B Y : sProp 𝕄} {h0 : xM.IsWhole} {h1 : oM.IsWhole} {h2 : sM.IsWhole} {a1 a2 : BitVec 32} {Q : (FVec F S32x256 .f32) → sProp 𝕄}
    (hQ : St m ρ K c ![2, 5, 3, 5, 3, 3, 3, 3] B Y ⊢ Q (sum2 m ρ c)) :
    St m ρ K c ![2, 4, 3, 3, 3, 3, 3, 3] B Y ⊢ run c Q (k0_part5 (F := F) xM h0 oM h1 sM h2 cc0_scratch1 cc0_scratch2 cc0_scratch3 cc0_scratch4 c a1 a2 (sum0 m ρ c)) := by
  rw [k0_part5_eq_skeleton]
  unfold k0_part5_skel
  simp only [run, semSignalWord, semWaitWord, Prog.lift, Prog.bind_op, Prog.bind_ret, Prog.pure_eq_ret]
  refine st_firstGot m ρ 1 (by decide) (by decide) (by decide) rfl rfl ?_
  refine st_loadSlot m ρ 1 (by decide) (by decide) rfl fun u1 e1 => ?_
  refine st_firstSent m ρ 3 (by decide) (by decide) (by decide) rfl rfl ?_
  refine st_firstGot m ρ 3 (by decide) (by decide) (by decide) rfl rfl ?_
  refine st_loadSlot m ρ 3 (by decide) (by decide) rfl fun u3 e3 => ?_
  rw [show k0_pay2 (sum0 m ρ c) u1 u3 = sum2 m ρ c by unfold k0_pay2 sum2; simp only [e1, e3]]
  exact st_ret m ρ ![2, 5, 3, 5, 3, 3, 3, 3] (by decide) hQ

/-- The piece of slot 4, and slot 2's waits. -/
theorem part6 {c : Dev nD} {B Y : sProp 𝕄} {h0 : xM.IsWhole} {h1 : oM.IsWhole} {h2 : sM.IsWhole} {a1 a2 : BitVec 32} {Q : (FVec F S32x256 .f32) → sProp 𝕄}
    (hQ : St m ρ K c ![2, 5, 5, 5, 5, 3, 3, 3] B Y ⊢ Q (sum3 m ρ c)) :
    St m ρ K c ![2, 5, 3, 5, 3, 3, 3, 3] B Y ⊢ run c Q (k0_part6 (F := F) xM h0 oM h1 sM h2 cc0_scratch1 cc0_scratch2 cc0_scratch3 cc0_scratch4 c a1 a2 (sum2 m ρ c)) := by
  rw [k0_part6_eq_skeleton]
  unfold k0_part6_skel
  simp only [run, semSignalWord, semWaitWord, Prog.lift, Prog.bind_op, Prog.bind_ret, Prog.pure_eq_ret]
  refine st_firstSent m ρ 4 (by decide) (by decide) (by decide) rfl rfl ?_
  refine st_firstGot m ρ 4 (by decide) (by decide) (by decide) rfl rfl ?_
  refine st_loadSlot m ρ 4 (by decide) (by decide) rfl fun u4 e4 => ?_
  refine st_firstSent m ρ 2 (by decide) (by decide) (by decide) rfl rfl ?_
  refine st_firstGot m ρ 2 (by decide) (by decide) (by decide) rfl rfl ?_
  rw [show k0_pay3 (sum2 m ρ c) u4 = sum3 m ρ c by unfold k0_pay3 sum3; simp only [e4]]
  exact st_ret m ρ ![2, 5, 5, 5, 5, 3, 3, 3] (by decide) hQ

/-- The pieces of slots 2 and 5. -/
theorem part7 {c : Dev nD} {B Y : sProp 𝕄} {h0 : xM.IsWhole} {h1 : oM.IsWhole} {h2 : sM.IsWhole} {a1 a2 : BitVec 32} {Q : (Σ' (v180 : FVec F S32x256 .f32) (v186 : BitVec 32), BitVec 32) → sProp 𝕄}
    (hQ : ∀ w1 w2 : BitVec 32, St m ρ K c ![2, 5, 5, 5, 5, 5, 3, 4] B Y ⊢ Q ⟨sum5 m ρ c, w1, w2⟩) :
    St m ρ K c ![2, 5, 5, 5, 5, 3, 3, 3] B Y ⊢ run c Q (k0_part7 (F := F) xM h0 oM h1 sM h2 cc0_scratch1 cc0_scratch2 cc0_scratch3 cc0_scratch4 c a1 a2 (sum3 m ρ c)) := by
  rw [k0_part7_eq_skeleton]
  unfold k0_part7_skel
  simp only [run, semSignalWord, semWaitWord, Prog.lift, Prog.bind_op, Prog.bind_ret, Prog.pure_eq_ret]
  refine st_loadSlot m ρ 2 (by decide) (by decide) rfl fun u2 e2 => ?_
  refine st_firstSent m ρ 5 (by decide) (by decide) (by decide) rfl rfl ?_
  refine st_firstGot m ρ 5 (by decide) (by decide) (by decide) rfl rfl ?_
  refine st_loadSlot m ρ 5 (by decide) (by decide) rfl fun u5 e5 => ?_
  refine st_firstSent m ρ 7 (by decide) (by decide) (by decide) rfl rfl ?_
  rw [show k0_pay4 (sum3 m ρ c) u2 u5 = sum5 m ρ c by unfold k0_pay4 sum5; simp only [e2, e5]]
  exact st_ret m ρ ![2, 5, 5, 5, 5, 5, 3, 4] (by decide) (hQ _ _)

/-- The pieces of slots 7 and 6, and the store of the sum. -/
theorem part8 {c : Dev nD} {B : sProp 𝕄} {h0 : xM.IsWhole} {h1 : oM.IsWhole} {h2 : sM.IsWhole} {a1 a2 a3 a4 : BitVec 32} {Q : (Σ' (v214 : BitVec 32), BitVec 32) → sProp 𝕄}
    (hQ : ∀ w1 w2 : BitVec 32, St m ρ K c (fun _ => 6) B (oP c c (lf 0) (result m ρ)) ⊢ Q ⟨w1, w2⟩) :
    St m ρ K c ![2, 5, 5, 5, 5, 5, 3, 4] B iprop(∃ f, oP c c fullShare f) ⊢ run c Q (k0_part8 (F := F) xM h0 oM h1 sM h2 cc0_scratch1 cc0_scratch2 cc0_scratch3 cc0_scratch4 c a1 a2 (sum5 m ρ c) a3 a4) := by
  rw [k0_part8_eq_skeleton]
  unfold k0_part8_skel
  simp only [run, semSignalWord, semWaitWord, Prog.lift, Prog.bind_op, Prog.bind_ret, Prog.pure_eq_ret]
  refine st_firstGot m ρ 7 (by decide) (by decide) (by decide) rfl rfl ?_
  refine st_loadSlot m ρ 7 (by decide) (by decide) rfl fun u7 e7 => ?_
  refine st_firstSent m ρ 6 (by decide) (by decide) (by decide) rfl rfl ?_
  refine st_firstGot m ρ 6 (by decide) (by decide) (by decide) rfl rfl ?_
  refine st_loadSlot m ρ 6 (by decide) (by decide) rfl fun u6 e6 => ?_
  refine st_loadOut m ρ (k0_off2_eq c) fun _ => ?_
  refine st_store m ρ (by decide) (by unfold k0_pay5 sum5 sum3 sum2 sum0; simp only [e7, e6]; rfl) (k0_off2_eq c) ?_
  exact st_ret m ρ (fun _ => 6) (by decide) (hQ _ _)

/-- Three sends of the second exchange. -/
theorem part9 {c : Dev nD} {B Y : sProp 𝕄} {h0 : xM.IsWhole} {h1 : oM.IsWhole} {h2 : sM.IsWhole} {a1 a2 a3 : BitVec 32} {Q : (Σ' (v225 : BitVec 32), BitVec 32) → sProp 𝕄}
    (hQ : ∀ w1 w2 : BitVec 32, St m ρ K c ![6, 6, 7, 6, 6, 7, 7, 6] B Y ⊢ Q ⟨w1, w2⟩) :
    St m ρ K c (fun _ => 6) B Y ⊢ run c Q (k0_part9 (F := F) xM h0 oM h1 sM h2 cc0_scratch1 cc0_scratch2 cc0_scratch3 cc0_scratch4 c a1 a2 a3) := by
  rw [k0_part9_eq_skeleton]
  unfold k0_part9_skel
  simp only [run, semSignalWord, semWaitWord, Prog.lift, Prog.bind_op, Prog.bind_ret, Prog.pure_eq_ret]
  refine st_second m ρ 6 (by decide) (by decide) (dev15_eq c) (k0_off3_eq c) rfl rfl ?_
  refine st_second m ρ 2 (by decide) (by decide) (dev16_eq c) (k0_off3_eq c) rfl rfl ?_
  refine st_second m ρ 5 (by decide) (by decide) (dev17_eq c) (k0_off3_eq c) rfl rfl ?_
  exact st_ret m ρ ![6, 6, 7, 6, 6, 7, 7, 6] (by decide) (hQ _ _)

/-- Two more. -/
theorem part10 {c : Dev nD} {B Y : sProp 𝕄} {h0 : xM.IsWhole} {h1 : oM.IsWhole} {h2 : sM.IsWhole} {a1 : BitVec 32} {Q : (Σ' (v247 : BitVec 32) (v258 : BitVec 32), BitVec 32) → sProp 𝕄}
    (hQ : ∀ w1 w2 w3 : BitVec 32, St m ρ K c ![6, 6, 7, 7, 6, 7, 7, 7] B Y ⊢ Q ⟨w1, w2, w3⟩) :
    St m ρ K c ![6, 6, 7, 6, 6, 7, 7, 6] B Y ⊢ run c Q (k0_part10 (F := F) xM h0 oM h1 sM h2 cc0_scratch1 cc0_scratch2 cc0_scratch3 cc0_scratch4 c a1) := by
  rw [k0_part10_eq_skeleton]
  unfold k0_part10_skel
  simp only [run, semSignalWord, semWaitWord, Prog.lift, Prog.bind_op, Prog.bind_ret, Prog.pure_eq_ret]
  refine st_second m ρ 7 (by decide) (by decide) (dev18_eq c) (k0_off3_eq c) rfl rfl ?_
  refine st_second m ρ 3 (by decide) (by decide) (dev19_eq c) (k0_off3_eq c) rfl rfl ?_
  exact st_ret m ρ ![6, 6, 7, 7, 6, 7, 7, 7] (by decide) (hQ _ _ _)

/-- The last two, and the first waits of the second exchange. -/
theorem part11 {c : Dev nD} {B Y : sProp 𝕄} {h0 : xM.IsWhole} {h1 : oM.IsWhole} {h2 : sM.IsWhole} {a1 : BitVec 32} {Q : (BitVec 32) → sProp 𝕄}
    (hQ : ∀ w1 : BitVec 32, St m ρ K c ![6, 9, 7, 8, 7, 7, 7, 7] B Y ⊢ Q w1) :
    St m ρ K c ![6, 6, 7, 7, 6, 7, 7, 7] B Y ⊢ run c Q (k0_part11 (F := F) xM h0 oM h1 sM h2 cc0_scratch1 cc0_scratch2 cc0_scratch3 cc0_scratch4 c a1) := by
  rw [k0_part11_eq_skeleton]
  unfold k0_part11_skel
  simp only [run, semSignalWord, semWaitWord, Prog.lift, Prog.bind_op, Prog.bind_ret, Prog.pure_eq_ret]
  refine st_second m ρ 4 (by decide) (by decide) (dev20_eq c) (k0_off3_eq c) rfl rfl ?_
  refine st_second m ρ 1 (by decide) (by decide) (dev21_eq c) (k0_off3_eq c) rfl rfl ?_
  refine st_secondSent m ρ 1 (by decide) (by decide) (by decide) rfl rfl ?_
  refine st_secondGot m ρ 1 (by decide) (by decide) (by decide) rfl rfl ?_
  refine st_secondSent m ρ 3 (by decide) (by decide) (by decide) rfl rfl ?_
  exact st_ret m ρ ![6, 9, 7, 8, 7, 7, 7, 7] (by decide) (hQ _)

/-- The waits of slots 3, 4 and 2. -/
theorem part12 {c : Dev nD} {B Y : sProp 𝕄} {h0 : xM.IsWhole} {h1 : oM.IsWhole} {h2 : sM.IsWhole} {a1 a2 a3 a4 : BitVec 32} {Q : PUnit.{1} → sProp 𝕄}
    (hQ : St m ρ K c ![6, 9, 9, 9, 9, 7, 7, 7] B Y ⊢ Q ⟨⟩) :
    St m ρ K c ![6, 9, 7, 8, 7, 7, 7, 7] B Y ⊢ run c Q (k0_part12 (F := F) xM h0 oM h1 sM h2 cc0_scratch1 cc0_scratch2 cc0_scratch3 cc0_scratch4 c a1 a2 a3 a4) := by
  rw [k0_part12_eq_skeleton]
  unfold k0_part12_skel
  simp only [run, semSignalWord, semWaitWord, Prog.lift, Prog.bind_op, Prog.bind_ret, Prog.pure_eq_ret]
  refine st_secondGot m ρ 3 (by decide) (by decide) (by decide) rfl rfl ?_
  refine st_secondSent m ρ 4 (by decide) (by decide) (by decide) rfl rfl ?_
  refine st_secondGot m ρ 4 (by decide) (by decide) (by decide) rfl rfl ?_
  refine st_secondSent m ρ 2 (by decide) (by decide) (by decide) rfl rfl ?_
  refine st_secondGot m ρ 2 (by decide) (by decide) (by decide) rfl rfl ?_
  exact st_ret m ρ ![6, 9, 9, 9, 9, 7, 7, 7] (by decide) hQ

/-- The waits of slots 5 and 7, and slot 6's send. -/
theorem part13 {c : Dev nD} {B Y : sProp 𝕄} {h0 : xM.IsWhole} {h1 : oM.IsWhole} {h2 : sM.IsWhole} {a1 a2 a3 : BitVec 32} {Q : PUnit.{1} → sProp 𝕄}
    (hQ : St m ρ K c ![6, 9, 9, 9, 9, 9, 8, 9] B Y ⊢ Q ⟨⟩) :
    St m ρ K c ![6, 9, 9, 9, 9, 7, 7, 7] B Y ⊢ run c Q (k0_part13 (F := F) xM h0 oM h1 sM h2 cc0_scratch1 cc0_scratch2 cc0_scratch3 cc0_scratch4 c a1 a2 a3) := by
  rw [k0_part13_eq_skeleton]
  unfold k0_part13_skel
  simp only [run, semSignalWord, semWaitWord, Prog.lift, Prog.bind_op, Prog.bind_ret, Prog.pure_eq_ret]
  refine st_secondSent m ρ 5 (by decide) (by decide) (by decide) rfl rfl ?_
  refine st_secondGot m ρ 5 (by decide) (by decide) (by decide) rfl rfl ?_
  refine st_secondSent m ρ 7 (by decide) (by decide) (by decide) rfl rfl ?_
  refine st_secondGot m ρ 7 (by decide) (by decide) (by decide) rfl rfl ?_
  refine st_secondSent m ρ 6 (by decide) (by decide) (by decide) rfl rfl ?_
  exact st_ret m ρ ![6, 9, 9, 9, 9, 9, 8, 9] (by decide) hQ

/-- The whole body: every slot goes from its first phase to its last. -/
theorem body_run {c : Dev nD} {h0 : xM.IsWhole} {h1 : oM.IsWhole} {h2 : sM.IsWhole} {Q : PUnit.{1} → sProp 𝕄} (hQ : St m ρ K c (fun _ => 9) (barDone c) (oP c c (lf 0) (result m ρ)) ⊢ Q ⟨⟩) :
    St m ρ K c (fun _ => 0) (barReady c) iprop(∃ f, oP c c fullShare f) ⊢ run c Q (cc0_body (F := F) xM h0 oM h1 sM h2 cc0_scratch1 cc0_scratch2 cc0_scratch3 cc0_scratch4) := by
  rw [cc0_body_eq_skeleton]
  unfold cc0_body_skel
  simp only [run, wp_bind]
  refine part1 m ρ fun _ _ => ?_
  dsimp only
  refine part2 m ρ fun _ _ _ _ _ => ?_
  dsimp only
  refine part3 m ρ fun _ _ _ => ?_
  dsimp only
  refine part4 m ρ fun _ => ?_
  dsimp only
  refine part5 m ρ ?_
  refine part6 m ρ ?_
  refine part7 m ρ fun _ _ => ?_
  dsimp only
  refine part8 m ρ fun _ _ => ?_
  dsimp only
  refine part9 m ρ fun _ _ => ?_
  dsimp only
  refine part10 m ρ fun _ _ _ => ?_
  dsimp only
  refine part11 m ρ fun _ => ?_
  refine part12 m ρ ?_
  refine part13 m ρ ?_
  simp only [Prog.lift, Prog.pure_eq_ret]
  refine st_secondGot m ρ 6 (by decide) (by decide) (by decide) rfl rfl ?_
  refine st_ret m ρ _ rfl (BIBase.Entails.trans ?_ (le_wp_ret _ _ _ _ _))
  unfold St at *
  rw [O_same c _ 9 9 (by decide) (by omega), slots_all m ρ c _ 9 (by decide)]
  exact hQ

end Cert.AllReduce

end
-- ==== Proof.Oblig.lean ====
/- The body as the launch asks for it: what a device is handed and what it gives back. -/
module

public import proofs.«01_k».proof.Proof.Ends
public import proofs.«01_k».proof.Proof.Body
public import proofs.«01_k».proof.Proof.Gen.KernelIdeal.Points

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The data of the launch -/

/-- What device `c` owes its partners at launch. -/
def O₀ (c : Dev nD) : CellTallies nD τ sig Unit := O c fun _ => 0

/-- The protocol's state device `c` starts from, its cells' invariants under the names `K`: its positions and its tokens. -/
def ghost (K : Dev nD × Cx → ℕ) (c : Dev nD) : sProp 𝕄 :=
  iprop(records m ρ K ∗ (bigSep Finset.univ fun x : Cx => atPos ER (kcell (c, x)) 0 ∅ 0) ∗ bigSep (Finset.univ.erase 0) fun r => dealt c r)

/-- The credits of device `c`'s cells at launch. -/
def credits (c : Dev nD) : sProp 𝕄 := iprop(cred (tallyAt (bar c) () 7) ∗ bigSep (Finset.univ.erase 0) fun r => crds c r)

/-- That, at some names, with the levels. -/
def start (c : Dev nD) : sProp 𝕄 := iprop((∃ K, ghost m ρ K c) ∗ credits c ∗ levAts L lv)

/-- The landing buffer at some contents. -/
def scratch (c : Dev nD) : sProp 𝕄 :=
  iprop(∃ f : Buf (Elt F) ((c : Thread nD τ).loc cc0_scratch0), (c : Thread nD τ).loc cc0_scratch0 ↦{fullShare} f)

/-- Before the body. -/
def Φ₀ (c : Dev nD) : sProp 𝕄 := iprop(start m ρ c ∗ scratch c)
/-- After it: every semaphore of the device's at zero. -/
def Φ₁ (c : Dev nD) : sProp 𝕄 := iprop(scratch c ∗ bigSep Finset.univ fun x : Cx => semVal (kcell (c, x)) 0)

/-- The launch's data: the input's buffer is left as it was, the result's holds the result. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => result m ρ
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- A staging buffer held at the contents `X`. -/
abbrev stg (c : Dev nD) (b : Ref sig .tc) (X : b.ty.Contents (Elt F)) : sProp 𝕄 :=
  iprop(∃ f : Buf (Elt F) ((c : Thread nD τ).loc b), ⌜f = X⌝ ∗ ((c : Thread nD τ).loc b) ↦{fullShare} f)

/-! ## The body between its ends -/

/-- The positions of a device's cells, by slots. -/
theorem positions_eq (c : Dev nD) : (bigSep Finset.univ fun x : Cx => atPos ER (kcell (c, x)) 0 ∅ 0 : sProp 𝕄)
    = iprop(atPos ER (bar c) 0 ∅ 0 ∗ posns c 0 0 ∗ bigSep (Finset.univ.erase 0) fun r => posns c r 0) := by
  rw [over_cells, over_slots]
  rfl

/-- What a device starts from is the body's first state, with slot 0 left aside. -/
theorem state_intro (K : Dev nD × Cx → ℕ) (c : Dev nD) (f : (cc0_scratch0 : Ref sig .tc).ty.Contents (Elt F)) (g : (cc0_stg1_0 : Ref sig .tc).ty.Contents (Elt F)) :
    iprop(ghost m ρ K c ∗ credits c ∗ levAts L lv ∗ ((c : Thread nD τ).loc cc0_stg0_0 ↦{fullShare} xstg m ρ c)
        ∗ ((c : Thread nD τ).loc cc0_stg1_0 ↦{fullShare} g) ∗ ((c : Thread nD τ).loc cc0_scratch0 ↦{fullShare} f) ∗ ∃ W, owes (c : Thread nD τ) (O₀ c) W)
      ⊢ iprop(St m ρ K c (fun _ => 0) (barReady c) iprop(∃ f, oP c c fullShare f) ∗ sP c 0 f ∗ posns c 0 0) := by
  rw [x_blocks, o_blocks, s_slots]
  unfold ghost credits St barReady O₀
  rw [positions_eq]
  iintro ⟨⟨HR, ⟨PB, P0, Ps⟩, Ds⟩, ⟨CB, Cs⟩, HL, ⟨X0, Xs⟩, ⟨Y0, Ys⟩, ⟨S0, Ss⟩, HO⟩
  isplitr [S0 P0]
  · isplitl [HR]; · iexact HR
    isplitl [HL]; · iexact HL
    isplitl [HO]; · iexact HO
    isplitl [Ds Ps Cs Xs Ys Ss]
    · iapply (slots_start m ρ c f g)
      isplitl [Ds]; · iexact Ds
      isplitl [Ps]; · iexact Ps
      isplitl [Cs]; · iexact Cs
      isplitl [Xs]; · iexact Xs
      isplitl [Ys]; · iexact Ys
      iexact Ss
    isplitl [PB CB]
    · isplitl [PB]; · iexact PB
      iexact CB
    isplitl [Y0]; · iexists g; iexact Y0
    iexact X0
  · isplitl [S0]; · iexact S0
    iexact P0

/-- The body's last state gives back the buffers, the input as it was and the result, and every semaphore. -/
theorem state_elim (K : Dev nD × Cx → ℕ) (c : Dev nD) (f : (cc0_scratch0 : Ref sig .tc).ty.Contents (Elt F)) :
    iprop(St m ρ K c (fun _ => 9) (barDone c) (oP c c (lf 0) (result m ρ)) ∗ sP c 0 f ∗ posns c 0 0)
      ⊢ (|={Set.univ}=> iprop(Φ₁ (F := F) c ∗ (∃ W, owes (c : Thread nD τ) 0 W) ∗ ((c : Thread nD τ).loc cc0_stg0_0 ↦{fullShare} xstg m ρ c)
        ∗ ((c : Thread nD τ).loc cc0_stg1_0 ↦{fullShare} result m ρ)) : sProp 𝕄) := by
  rw [x_blocks, o_blocks, oP_shares]
  unfold St Φ₁ scratch
  rw [O_done c (fun _ => 9) (fun _ _ => by decide)]
  iintro ⟨⟨HR, -, HO, Hs, HB, Y0, X0⟩, S0, P0⟩
  ihave Hs := (slots_end m ρ c) $$ Hs
  icases Hs with ⟨Ps, Xs, Ls, Ys, Os⟩
  imod (close_all m ρ K c) $$ [HR HB P0 Ps] with HV
  · isplitl [HR]; · iexact HR
    isplitl [HB]; · iexact HB
    isplitl [P0]; · iexact P0
    iexact Ps
  imodintro
  isplitl [S0 Ls HV]
  · isplitl [S0 Ls]
    · iapply (s_join m ρ c f)
      isplitl [S0]; · iexact S0
      iexact Ls
    · iexact HV
  isplitl [HO]; · iexact HO
  isplitl [X0 Xs]
  · isplitl [X0]; · iexact X0
    iexact Xs
  · isplitl [Y0 Ys]
    · isplitl [Y0]; · iexact Y0
      iexact Ys
    · iexact Os

/-- The body, from what a device starts from to what it gives back. -/
theorem body_ends (K : Dev nD × Cx → ℕ) (c : Dev nD) (f : (cc0_scratch0 : Ref sig .tc).ty.Contents (Elt F)) (g : (cc0_stg1_0 : Ref sig .tc).ty.Contents (Elt F))
    {h0 : xM.IsWhole} {h1 : oM.IsWhole} {h2 : sM.IsWhole} :
    iprop(ghost m ρ K c ∗ credits c ∗ levAts L lv ∗ ((c : Thread nD τ).loc cc0_stg0_0 ↦{fullShare} xstg m ρ c)
        ∗ ((c : Thread nD τ).loc cc0_stg1_0 ↦{fullShare} g) ∗ ((c : Thread nD τ).loc cc0_scratch0 ↦{fullShare} f) ∗ ∃ W, owes (c : Thread nD τ) (O₀ c) W)
      ⊢ run c (fun _ => iprop(Φ₁ (F := F) c ∗ (∃ W, owes (c : Thread nD τ) 0 W) ∗ ((c : Thread nD τ).loc cc0_stg0_0 ↦{fullShare} xstg m ρ c)
          ∗ ((c : Thread nD τ).loc cc0_stg1_0 ↦{fullShare} result m ρ)))
        (cc0_body (F := F) xM h0 oM h1 sM h2 cc0_scratch1 cc0_scratch2 cc0_scratch3 cc0_scratch4) := by
  refine BIBase.Entails.trans (state_intro m ρ K c f g) ?_
  refine BIBase.Entails.trans (sep_mono_left (body_run m ρ (K := K) (c := c) (h0 := h0) (h1 := h1) (h2 := h2)
    (Q := fun _ => St m ρ K c (fun _ => 9) (barDone c) (oP c c (lf 0) (result m ρ))) (BI.Entails.refl _))) ?_
  refine BIBase.Entails.trans (wp_frame_r _ _ _) ?_
  refine BIBase.Entails.trans (wp_mono _ _ _ fun _ => state_elim m ρ K c f) ?_
  exact wp_fupd _ _ _ _ _

/-! ## As the launch asks for it -/

/-- A whole memref's assertion, as its buffer's. -/
theorem owns_whole (c : Dev nD) (b : Ref sig .tc) (X : b.ty.Contents (Elt F)) :
    (owns (c : Thread nD τ) (Memref.whole b) fullShare X : sProp 𝕄) = stg c b X := by
  unfold owns
  simp only [Memref.view_whole, View.read_whole, View.set_whole]

/-- What the launch hands the body. -/
def handed (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))

/-- What it is to give back. -/
def given (c : Dev nD) : sProp 𝕄 :=
  iprop(Φ₁ c ∗ (dats m ρ 0 c).owesAt () t0_0.succ ∗ stg c cc0_stg0_0 (xstg m ρ c) ∗ stg c cc0_stg1_0 (result m ρ))

/-- The ends of the body's run are what is given back. -/
theorem given_intro (c : Dev nD) :
    iprop(Φ₁ (F := F) c ∗ (∃ W, owes (c : Thread nD τ) 0 W) ∗ ((c : Thread nD τ).loc cc0_stg0_0 ↦{fullShare} xstg m ρ c)
          ∗ ((c : Thread nD τ).loc cc0_stg1_0 ↦{fullShare} result m ρ)) ⊢ given m ρ c := by
  unfold given Dat.owesAt Pipeline.owesWithin
  iintro ⟨HP, ⟨%W, HO⟩, HX, HY⟩
  isplitl [HP]; · iexact HP
  isplitl [HO]
  · iexists W
    isplitr; · (ipureintro; exact fun _ _ => Or.inl trivial)
    iexact HO
  isplitl [HX]
  · iexists _; isplitr; · (ipureintro; rfl)
    iexact HX
  iexists _; isplitr; · (ipureintro; rfl)
  iexact HY

/-- The body does so. -/
theorem body_given (c : Dev nD) {h0 : xM.IsWhole} {h1 : oM.IsWhole} {h2 : sM.IsWhole} :
    handed m ρ c ⊢ run c (fun _ => given m ρ c)
      (cc0_body (F := F) xM h0 oM h1 sM h2 cc0_scratch1 cc0_scratch2 cc0_scratch3 cc0_scratch4) := by
  unfold handed Φ₀ start scratch
  iintro ⟨⟨⟨⟨%K, Hg⟩, HC, HL⟩, ⟨%f, HS⟩⟩, HO, ⟨%d0, %g0, %hg0, HX⟩, ⟨%d1, %g1, %hg1, HY⟩⟩
  have hx : g0 = xstg m ρ c := by rw [hg0]; unfold Dat.before; rw [if_pos (fetch0_0 t0_0)]; rfl
  subst hx
  unfold Dat.owesAt Pipeline.owesWithin
  icases HO with ⟨%W, %hW, HO⟩
  ihave H := (body_ends m ρ K c f g1 (h0 := h0) (h1 := h1) (h2 := h2)) $$ [Hg HC HL HS HO HX HY]
  · isplitl [Hg]; · iexact Hg
    isplitl [HC]; · iexact HC
    isplitl [HL]; · iexact HL
    isplitl [HX]; · iexact HX
    isplitl [HY]; · iexact HY
    isplitl [HS]; · iexact HS
    iexists W
    iexact HO
  iapply (wp_mono frame (wpE (defs₀ (F := F)) 𝒱₀ (c : Thread nD τ) none) Set.univ (fun _ => given_intro m ρ c))
  iexact H

/-- The launch's obligation on the body. -/
theorem body_obligation (c : Dev nD) : BodyObligation (dats (F := F) m ρ 0 c) (defs₀ (F := F)) 𝒱₀ () Set.univ := fun t => by
  rw [fin_N0 t, bigSep_W0, bigSep_W0]
  simp only [owns_whole]
  exact body_given m ρ c

end Cert.AllReduce

end
-- ==== Proof.Launch.lean ====
/- The launch: the tokens dealt, the credits counted, and the run of the whole program. -/
module

public import proofs.«01_k».proof.Proof.Oblig
public import Idealize.ShloMosaic.Lib.Pipeline.CollectiveSegs

@[expose] public section

noncomputable section

namespace Cert.AllReduce

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Tokens -/

/-- The tokens minted: for a slot and a device, its barrier's, and one for each kind of its completions. -/
def tokOf (x : Fin 8 × (Dev nD × Option (Fin 4))) : GSem nD τ sig × ℕ × Fin 8 :=
  match x.2.2 with
  | none => (bar x.2.1, 0, x.1)
  | some k => (cel x.2.1 k x.1, 0, 0)

/-- Different duties have different tokens. -/
theorem tokOf_inj : Function.Injective tokOf := by
  rintro ⟨r, c, _ | k⟩ ⟨r', c', _ | k'⟩ h
  · have h1 := bar_inj c c' (congrArg Prod.fst h)
    have h2 : r = r' := congrArg (fun x : GSem nD τ sig × ℕ × Fin 8 => x.2.2) h
    rw [h1, h2]
  · exact absurd (congrArg Prod.fst h).symm (cel_ne_bar c' c k' r')
  · exact absurd (congrArg Prod.fst h) (cel_ne_bar c c' k r)
  · obtain ⟨h1, h2, h3⟩ := cel_inj c c' k k' r r' (congrArg Prod.fst h)
    rw [h1, h2, h3]

/-- The cells of the protocol on all devices. -/
def allCells : Finset (GSem nD τ sig) := Finset.univ.map ⟨kcell, kcell_inj⟩
/-- The tokens minted on all devices. -/
def allToks : Finset (GSem nD τ sig × ℕ × Fin 8) := Finset.univ.map ⟨tokOf, tokOf_inj⟩

/-- The protocols' first elements: the library's staging cells and the kernel's own. -/
def u₀ : UU := (initOf (Pipeline.cells cfgs cellOf_inj) (Pipeline.launchToks cfgs cellOf_inj), initOf allCells allToks)

/-- In one slot, the tokens go to those who pay with them: the barrier's and the receive cells' across the pairing. -/
theorem deal_slot (r : Fin 8) :
    (bigSep Finset.univ fun c : Dev nD => bigSep Finset.univ fun j : Option (Fin 4) =>
        dutyTok ER (tokOf (r, c, j)).1 (tokOf (r, c, j)).2.1 (tokOf (r, c, j)).2.2 : sProp 𝕄)
      = bigSep Finset.univ fun c : Dev nD => dealt c r := by
  have h5 (Ψ : Option (Fin 4) → sProp 𝕄) : bigSep Finset.univ Ψ = iprop(Ψ none ∗ Ψ (some 0) ∗ Ψ (some 1) ∗ Ψ (some 2) ∗ Ψ (some 3)) :=
    bigSep_univ_eq_bigSepL [none, some 0, some 1, some 2, some 3] (by decide) (by decide) Ψ
  have hl : (bigSep Finset.univ fun c : Dev nD => bigSep Finset.univ fun j : Option (Fin 4) =>
        dutyTok ER (tokOf (r, c, j)).1 (tokOf (r, c, j)).2.1 (tokOf (r, c, j)).2.2 : sProp 𝕄)
      = bigSep Finset.univ fun c : Dev nD => iprop(tok (bar c) r ∗ tok (cel c 0 r) 0 ∗ tok (cel c 1 r) 0 ∗ tok (cel c 2 r) 0 ∗ tok (cel c 3 r) 0) :=
    bigSep_congr fun c _ => h5 _
  rw [hl]
  unfold dealt
  rw [bigSep_sep', bigSep_sep', bigSep_sep', bigSep_sep', bigSep_sep', bigSep_sep', bigSep_sep', bigSep_sep',
    bigSep_univ_equiv (pairing r) (fun c : Dev nD => (tok (bar c) r : sProp 𝕄)),
    bigSep_univ_equiv (pairing r) (fun c : Dev nD => (tok (cel c 1 r) 0 : sProp 𝕄)),
    bigSep_univ_equiv (pairing r) (fun c : Dev nD => (tok (cel c 3 r) 0 : sProp 𝕄))]
  rfl

/-- Slot 0's member of a family may be left unused. -/
theorem drop_slot0 (Φ : Fin 8 → sProp 𝕄) : bigSep Finset.univ Φ ⊢ bigSep (Finset.univ.erase 0) Φ := bigSep_subset (Finset.erase_subset _ _)

/-- All tokens, dealt; slot 0's are not used. -/
theorem deal :
    (bigSep allToks fun x => dutyTok ER x.1 x.2.1 x.2.2 : sProp 𝕄)
      ⊢ bigSep Finset.univ fun c : Dev nD => bigSep (Finset.univ.erase 0) fun r => dealt c r := by
  unfold allToks
  rw [bigSep_map, bigSep_univ_prod]
  have h : (bigSep Finset.univ fun r : Fin 8 => bigSep Finset.univ fun y : Dev nD × Option (Fin 4) =>
        dutyTok ER (tokOf (r, y)).1 (tokOf (r, y)).2.1 (tokOf (r, y)).2.2 : sProp 𝕄)
      = bigSep Finset.univ fun c : Dev nD => bigSep Finset.univ fun r : Fin 8 => dealt c r := by
    rw [Idealize.SL.BI.bigSep_univ_comm (fun (c : Dev nD) (r : Fin 8) => (dealt c r : sProp 𝕄))]
    refine (bigSep_congr fun r _ => ?_)
    rw [bigSep_univ_prod]
    exact deal_slot r
  exact BIBase.Entails.trans (Entails.of_eq h) (bigSep_mono fun c _ => drop_slot0 fun r => dealt c r)

/-! ## The cells -/

/-- What the launch gives device `c`: its cells' first state, its positions and the tokens it pays with. -/
def G (c : Dev nD) : sProp 𝕄 :=
  iprop((bigSep Finset.univ fun x : Cx => roundState ER (sch m ρ) (kcell (c, x)) 0)
    ∗ (bigSep Finset.univ fun x : Cx => reached ER (kcell (c, x)) 0)
    ∗ (bigSep Finset.univ fun x : Cx => atPos ER (kcell (c, x)) 0 ∅ 0)
    ∗ bigSep (Finset.univ.erase 0) fun r => dealt c r)

/-- What is made of it once the cells' invariants stand. -/
def G' (c : Dev nD) : sProp 𝕄 := iprop(∃ K, ghost m ρ K c)

/-- The kernel's own first element yields it on every device. -/
theorem fund_all : BI.own (ER (initOf allCells allToks)) ⊢ (|==> bigSep Finset.univ (G m ρ) : sProp 𝕄) := by
  have hX (Φ : GSem nD τ sig → sProp 𝕄) :
      bigSep allCells Φ = bigSep Finset.univ fun c : Dev nD => bigSep Finset.univ fun x : Cx => Φ (kcell (c, x)) := by
    unfold allCells; rw [bigSep_map, bigSep_univ_prod]; rfl
  have hG : bigSep Finset.univ (G m ρ) = iprop((bigSep allCells fun g => roundState ER (sch m ρ) g 0) ∗ (bigSep allCells fun g => reached ER g 0)
      ∗ (bigSep allCells fun g => atPos ER g 0 ∅ 0) ∗ bigSep Finset.univ fun c : Dev nD => bigSep (Finset.univ.erase 0) fun r => dealt c r) := by
    rw [hX, hX, hX, ← bigSep_sep', ← bigSep_sep', ← bigSep_sep']
    rfl
  rw [hG]
  refine BIBase.Entails.trans (Rounds.fund ER (sch m ρ) allCells allToks) (BI.bupd_mono ?_)
  exact sep_mono_right (sep_mono_right (sep_mono_right deal))

/-- The semaphores a device has: the barrier's is the launch's, the others the kernel's own. -/
theorem sems_eq (c : Dev nD) :
    (bigSep Finset.univ fun x : Cx => semVal (kcell (c, x)) 0 : sProp 𝕄)
      = iprop(unscopedSems0 c ∗ Pipeline.ownSems0 (Ix := Unit) (Name := ℕ) (U := UU) (Lvl := ℕ) (Val := Elt F) (τ := τ) osem c) := by
  have hu : (unscopedSems0 c : sProp 𝕄) = semVal (bar c) 0 := by
    unfold unscopedSems0; rw [bigSep_eq_bigSepL_of_eq [SemLoc.reg barS] (by decide) (by decide)]; rfl
  rw [over_own, hu]
  rfl

/-- A device's cells get their invariants. -/
theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun x : Cx => iprop((∃ κ : ℕ, cellInv ER (sch m ρ) κ (kcell (c, x))) ∗ reached ER (kcell (c, x)) 0))
          ∗ (bigSep Finset.univ fun x : Cx => atPos ER (kcell (c, x)) 0 ∅ 0) ∗ bigSep (Finset.univ.erase 0) fun r => dealt c r) := by
  have hi : iprop((bigSep Finset.univ fun x : Cx => semVal (kcell (c, x)) 0) ∗ bigSep Finset.univ fun x : Cx => roundState ER (sch m ρ) (kcell (c, x)) 0)
      ⊢ (|={Set.univ}=> bigSep Finset.univ fun x : Cx => iprop(∃ κ : ℕ, cellInv ER (sch m ρ) κ (kcell (c, x))) : sProp 𝕄) := by
    rw [← bigSep_sep']
    exact (bigSep_mono fun x _ => (Rounds.body_intro ER (sch m ρ) (kcell (c, x))).trans inv_alloc).trans (bigSep_fupd _ _)
  rw [bigSep_sep']
  rw [sems_eq] at hi
  unfold G
  iintro ⟨Ho, Hu, Hst, Hr, Hat, Hd⟩
  imod hi $$ [Ho Hu Hst] with HI
  · isplitl [Ho Hu]
    · isplitl [Hu] <;> iassumption
    · iexact Hst
  imodintro
  isplitl [HI Hr]
  · isplitl [HI] <;> iassumption
  isplitl [Hat] <;> iassumption

/-- The invariants' names are chosen, and every device learns all of them. -/
theorem share_names :
    (bigSep Finset.univ fun c : Dev nD => iprop((bigSep Finset.univ fun x : Cx => iprop((∃ κ : ℕ, cellInv ER (sch m ρ) κ (kcell (c, x))) ∗ reached ER (kcell (c, x)) 0))
          ∗ (bigSep Finset.univ fun x : Cx => atPos ER (kcell (c, x)) 0 ∅ 0) ∗ bigSep (Finset.univ.erase 0) fun r => dealt c r) : sProp 𝕄)
      ⊢ bigSep Finset.univ (G' m ρ) := by
  rw [bigSep_sep', ← bigSep_univ_prod (fun x : Dev nD × Cx => iprop((∃ κ : ℕ, cellInv ER (sch m ρ) κ (kcell x)) ∗ reached ER (kcell x) 0)), bigSep_sep']
  iintro ⟨⟨HI, HR⟩, Hd⟩
  ihave HK := (BI.bigSep_exists_pi Finset.univ (fun (x : Dev nD × Cx) (κ : ℕ) => (cellInv ER (sch m ρ) κ (kcell x) : sProp 𝕄))) $$ HI
  icases HK with ⟨%K, HI⟩
  have hg (c : Dev nD) : iprop(records m ρ K ∗ (bigSep Finset.univ fun x : Cx => atPos ER (kcell (c, x)) 0 ∅ 0) ∗ bigSep (Finset.univ.erase 0) fun r => dealt c r) ⊢ G' m ρ c := by
    unfold G' ghost
    iintro H; iexists K; iexact H
  have hr : records m ρ K = iprop((bigSep Finset.univ fun x : Dev nD × Cx => cellInv ER (sch m ρ) (K x) (kcell x)) ∗ bigSep Finset.univ fun x : Dev nD × Cx => reached ER (kcell x) 0) := by
    unfold records; rw [bigSep_sep']
  iapply (with_record Finset.univ (R := records m ρ K) (fun c _ => hg c))
  isplitr [Hd]
  · rw [hr]
    isplitl [HI] <;> iassumption
  · iexact Hd

/-- The step over all devices at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (share_names m ρ))

/-! ## The credits -/

/-- What all devices together owe a semaphore, slot by slot. -/
theorem owed_all (g : GSem nD τ sig) :
    ∑ d : Dev nD, O₀ d g () = ∑ r ∈ Finset.univ.erase (0 : Fin 8), ∑ d : Dev nD,
      ((if g = bar d then 1 else 0) + (if g = cel d 1 r then N else 0) + (if g = cel d 3 r then N else 0)) := by
  have h (d : Dev nD) (r : Fin 8) : owed d r 0 g () = (if g = bar (peer d r) then 1 else 0) + (if g = cel (peer d r) 1 r then N else 0)
      + (if g = cel (peer d r) 3 r then N else 0) := by
    unfold owed
    rw [if_pos (by decide), if_pos (by decide), if_pos (by decide), Pi.add_apply, Pi.add_apply, Finsupp.add_apply, Finsupp.add_apply,
      tallyAt_apply, tallyAt_apply, tallyAt_apply]
    simp only [and_true]
  have hO (d : Dev nD) : O₀ d g () = ∑ r ∈ Finset.univ.erase (0 : Fin 8), owed d r 0 g () := by
    unfold O₀ O
    rw [Finset.sum_apply, Finsupp.finset_sum_apply]
  rw [Finset.sum_congr rfl fun d _ => hO d, Finset.sum_comm]
  refine Finset.sum_congr rfl fun r _ => ?_
  rw [Finset.sum_congr rfl fun d _ => h d r]
  exact Equiv.sum_comp (pairing r) fun d => (if g = bar d then 1 else 0) + (if g = cel d 1 r then N else 0) + (if g = cel d 3 r then N else 0)

/-- A barrier is owed a signal by each partner. -/
theorem owed_to_bar (c : Dev nD) : ∑ d : Dev nD, O₀ d (bar c) () = 7 := by
  have hb (d : Dev nD) : (bar c = bar d) = (c = d) := propext ⟨bar_inj c d, fun h => by rw [h]⟩
  have hc (d : Dev nD) (k : Fin 4) (r : Fin 8) : (bar c = cel d k r) = False := propext ⟨fun h => cel_ne_bar d c k r h.symm, False.elim⟩
  rw [owed_all]
  simp only [hb, hc, if_false, Nat.add_zero, Finset.sum_ite_eq, Finset.mem_univ, if_true]
  decide

/-- A receive cell of either exchange is owed one transfer. -/
theorem owed_to_cel (c : Dev nD) (k : Fin 4) (r : Fin 8) (hr : r ≠ 0) (hk : k = 1 ∨ k = 3) : ∑ d : Dev nD, O₀ d (cel c k r) () = N := by
  have hb (d : Dev nD) : (cel c k r = bar d) = False := propext ⟨fun h => cel_ne_bar c d k r h, False.elim⟩
  have hc (d : Dev nD) (k' : Fin 4) (r' : Fin 8) : (cel c k r = cel d k' r') = (c = d ∧ k = k' ∧ r = r') :=
    propext ⟨cel_inj c d k k' r r', fun ⟨h1, h2, h3⟩ => by rw [h1, h2, h3]⟩
  have hm : r ∈ Finset.univ.erase (0 : Fin 8) := Finset.mem_erase.mpr ⟨hr, Finset.mem_univ r⟩
  have h13 : ((1 : Fin 4) = 3) = False := by decide
  have h31 : ((3 : Fin 4) = 1) = False := by decide
  rw [owed_all]
  rcases hk with rfl | rfl <;>
    simp only [hb, hc, if_false, true_and, false_and, and_false, h13, h31, Nat.add_zero, Nat.zero_add, ite_and, Finset.sum_ite_eq, Finset.mem_univ, if_true, hm]

/-- A cell's launch credit, once what it is owed in all is known. -/
theorem credit_of (g : GSem nD τ sig) (n : ℕ) (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- A device's launch credits are those of its barrier and of its receive cells. -/
theorem credits_intro (c : Dev nD) : (Pipeline.launchCred O₀ c : sProp 𝕄) ⊢ credits c := by
  unfold Pipeline.launchCred credits
  refine BIBase.Entails.trans (bigSep_subset (t := Finset.univ.map ⟨csem, csem_inj⟩) (Finset.subset_univ _)) ?_
  rw [bigSep_map, over_cells]
  have hs (r : Fin 8) (hr : r ∈ Finset.univ.erase (0 : Fin 8)) :
      (iprop(cred (tallyOn (cel c 0 r) (launchCredit (Pipeline.owing O₀) 0 (cel c 0 r))) ∗ cred (tallyOn (cel c 1 r) (launchCredit (Pipeline.owing O₀) 0 (cel c 1 r)))
        ∗ cred (tallyOn (cel c 2 r) (launchCredit (Pipeline.owing O₀) 0 (cel c 2 r))) ∗ cred (tallyOn (cel c 3 r) (launchCredit (Pipeline.owing O₀) 0 (cel c 3 r)))) : sProp 𝕄)
      ⊢ crds c r := by
    have hr := Finset.ne_of_mem_erase hr
    rw [credit_of (cel c 1 r) N (owed_to_cel c 1 r hr (Or.inl rfl)), credit_of (cel c 3 r) N (owed_to_cel c 3 r hr (Or.inr rfl))]
    unfold crds
    iintro ⟨-, H1, -, H3⟩
    isplitl [H1] <;> iassumption
  have hb : (cred (tallyOn (bar c) (launchCredit (Pipeline.owing O₀) 0 (bar c))) : sProp 𝕄) ⊢ cred (tallyAt (bar c) () 7) := by
    rw [credit_of (bar c) 7 (owed_to_bar c)]
  exact Idealize.SL.BI.sep_mono hb ((drop_slot0 _).trans (bigSep_mono hs))

/-! ## The side conditions -/

/-- The transfers' semaphores are the kernel's own, each once. -/
theorem ownSemFacts : Pipeline.OwnSemFacts cfg0.spec osem := by decide

/-- Every window holds its array whole. -/
theorem share_eq (c : Dev nD) (w : Fin cfg0.W) : (dats m ρ 0 c).share w = fullShare := by unfold Dat.share; split <;> rfl

/-- A staging semaphore may be waited on, before the body and after. -/
theorem mayWait_staging (c : Dev nD) (q : DmaSem sig) (hq : lv ((c : Thread nD τ), .dma q) () = 0) (T : CellTallies nD τ sig Unit) (hT : T = O₀ c ∨ T = 0) :
    (levAts L lv : sProp 𝕄) ⊢ MayWait (c : Thread nD τ) (.dma q) () T := by
  rcases hT with rfl | rfl
  · exact mayWait c (.dma q) (fun _ => 0) 0 (by rw [hq]) (fun r _ => ⟨fun _ => by decide, fun _ => by decide, fun _ => by decide⟩)
  · rw [MayWait_zero]; iintro -; iempintro

/-- So may all of them, at every point. -/
theorem waits (c : Dev nD) : (levAts L lv : sProp 𝕄) ⊢ Pipeline.cellsWaits cfgs (dats m ρ) () 0 c :=
  Pipeline.cellsWaits_intro cfgs (dats m ρ) () 0 c fun w s t =>
    mayWait_staging c _ (by fin_cases w <;> fin_cases s <;> rfl) _ (by
      rcases t with ⟨_ | _, ht⟩
      · exact Or.inl rfl
      · exact Or.inr rfl)

/-- What a device gets at launch makes up what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, HL, HC, -, HG⟩
  ihave HC := (credits_intro (F := F) c) $$ HC
  imodintro
  unfold start G'
  isplitl
  · isplitl [HG]; · iexact HG
    isplitl [HC] <;> iassumption
  · iempintro

/-- That, with the kernel's buffers, is what holds before the first point; -/
theorem phi_first (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs] <;> iassumption

/-- what holds after the last gives back the semaphores and the buffers. -/
theorem phi_last (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁ scratch
  rw [sems_eq]
  iintro ⟨Hr, Hu, Ho⟩
  isplitl [Hu]; · iexact Hu
  isplitl [Ho]; · iexact Ho
  iexact Hr

/-! ## The run -/

/-- A window's array on device `c` at the end. -/
def lastA (c : Dev nD) (w : Fin cfg0.W) : Buf (Elt F) ((cfg0.win w).arr.view.loc (c : Thread nD τ)) := (dats m ρ 0 c).arrAt w cfg0.N

/-- Every window's array is as that says. -/
def Ends : PUnit.{1} × MemSt nD τ sig (Elt F) → Prop := fun r =>
  ∀ c : Dev nD, ∀ w : Fin cfg0.W, r.2.mem ((cfg0.win w).arr.view.loc (c : Thread nD τ)) = lastA m ρ c w

set_option maxRecDepth 8000 in
/-- From any memory with every semaphore at zero, every fair run of the program on the eight devices ends, each device's
    arrays as `Ends` says and every semaphore at zero again. -/
theorem run_main :
    θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi_first m ρ) (hout := phi_last m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.AllReduce

end
-- ==== Proof.Value.lean ====
/-
What the arrays hold after the run, and that over the extended reals it is the sum over the eight devices.

The argument's array is not written. The result's array is written once, whole, with `result`: at row `i` the sum that device
`i / 32` formed. That sum runs over the devices in the order of that device's partners, so over the extended reals, where
addition is commutative and associative, it is the sum over all devices.
-/
module

public import proofs.«01_k».proof.Proof.Launch
public import Idealize.ShloMosaic.Lib.IdealHost

@[expose] public section

noncomputable section

namespace Cert.AllReduce

open Cert.KernelIdeal Cert.KernelIdeal.Gen
open Idealize.ShloMosaic Idealize.ShloMosaic.TcCoe
open Idealize.SL.Sem

section AnyFloats

variable {F : FTy → Type} [FloatOps F]
variable (m : (ℓ : Loc nD τ sig) → Buf (Elt F) ℓ) (ρ : Dev nD → PrngReg)

/-- The argument's window is the whole array. -/
theorem read_arg (f : (main_arg0 : Ref sig .tc).ty.Contents (Elt F)) : (win0_0.blk (0 : Fin 1)).view.read (Elt F) f = f := by
  refine Memref.read_access_unit_zero (Elt F) main_arg0 ?_ _ f
  funext a; fin_cases a <;> rfl

/-- So is the result's. -/
theorem read_out (f : (main_v1 : Ref sig .tc).ty.Contents (Elt F)) : (win0_1.blk (0 : Fin 1)).view.read (Elt F) f = f := by
  refine Memref.read_access_unit_zero (Elt F) main_v1 ?_ _ f
  funext a; fin_cases a <;> rfl

/-- The staged input is the device's argument. -/
theorem xstg_eq (c : Dev nD) : xstg m ρ c = m ((c.tc : Thread nD τ).loc main_arg0) := read_arg _

/-- The argument's array ends as it began. -/
theorem last_arg (c : Dev nD) : lastA m ρ c (0 : Fin 2) = m ((c.tc : Thread nD τ).loc main_arg0) :=
  (dats (F := F) m ρ 0 c).arrAt_in (0 : Fin 2) rfl _

/-- The result's array ends at `result`. -/
theorem last_out (c : Dev nD) : lastA m ρ c (1 : Fin 2) = result m ρ := by
  rw [← read_out (lastA m ρ c (1 : Fin 2))]
  unfold lastA
  rw [show cfg0.N = ((0 : Fin 1) : Fin cfg0.N).val + 1 from rfl, (dats m ρ 0 c).arrAt_succ (1 : Fin 2) (0 : Fin 1)]
  rw [if_pos (show (cfg0.win (1 : Fin 2)).flush (0 : Fin 1) = true from flush0_1 _)]
  exact View.read_write_univ _ _

/-- Where an element of a block of the input lies in the whole. -/
theorem xB_emb (b : Fin 8) (j : S32x256.Idx) (a : Fin 2) :
    (((xB b).view.emb j : S256x256.Idx) a).val = if a = 0 then 32 * b.val + (j 0).val else (j 1).val := blkR_emb b j a

/-- An element of the piece of device `d`'s input that row `i` lies in. -/
theorem piece_apply (d : Dev nD) (i : S256x256.Idx) (b : Fin 8) (j : S32x256.Idx)
    (h0 : (i 0).val = 32 * b.val + (j 0).val) (h1 : (i 1).val = (j 1).val) :
    piece m ρ d b j = (m ((d.tc : Thread nD τ).loc main_arg0) : S256x256.Idx → Elt F .f32) i := by
  unfold piece
  rw [xstg_eq]
  show (m ((d.tc : Thread nD τ).loc main_arg0) : S256x256.Idx → Elt F .f32) ((xB b).view.emb j) = _
  congr 1
  funext a
  refine Fin.ext ((xB_emb b j a).trans ?_)
  fin_cases a
  · exact h0.symm
  · exact h1.symm

end AnyFloats

/-! ## Over the extended reals -/

variable (m : (ℓ : Loc nD τ sig) → Buf (Elt Ideal) ℓ) (ρ : Dev nD → PrngReg)

/-- Adding over a device's partners in the order the kernel takes them is adding over all devices. -/
theorem sum_partners (b : Dev nD) (g : Dev nD → EReal) :
    g b + g (peer b 1) + g (peer b 3) + g (peer b 4) + g (peer b 2) + g (peer b 5) + g (peer b 7) + g (peer b 6) = ∑ d : Fin 8, g d := by
  rw [← Equiv.sum_comp (fan b) g, Fin.sum_univ_eight]
  show _ = g (peer b 0) + g (peer b 1) + g (peer b 2) + g (peer b 3) + g (peer b 4) + g (peer b 5) + g (peer b 6) + g (peer b 7)
  rw [peer_zero]
  ac_rfl

/-- Device `d`'s argument, as an array of extended reals. -/
def arg (d : Dev nD) : S256x256.Idx → EReal := m ((d.tc : Thread nD τ).loc main_arg0)

/-- The result, as an array of extended reals. -/
def res : S256x256.Idx → EReal := result m ρ

/-- The result is, element by element, the sum of the devices' arguments. -/
theorem res_apply (i : S256x256.Idx) : res m ρ i = ∑ d : Fin 8, arg m d i := by
  have hi : (i 0).val < 256 := (i 0).isLt
  have hp := fun d : Dev nD => piece_apply m ρ d i ⟨(i 0).val / 32, by omega⟩
    (fun a => ⟨if a = 0 then (i 0).val % 32 else (i 1).val, by
      fin_cases a
      · show (i 0).val % 32 < 32; omega
      · show (i 1).val < 256; exact (i 1).isLt⟩)
    (by show (i 0).val = 32 * ((i 0).val / 32) + (i 0).val % 32; omega) rfl
  refine Eq.trans ?_ (sum_partners ⟨(i 0).val / 32, by show _ < 8; omega⟩ fun d : Dev nD => arg m d i)
  unfold res result total
  simp only [ValueIdx.addf_apply]
  rw [hp, hp, hp, hp, hp, hp, hp, hp]
  rfl

end Cert.AllReduce

end
-- ==== Proof.Reference.lean ====
/-
The reference's value over the extended reals: element by element, the sum of the eight row blocks of its argument.
-/
module

public import proofs.«01_k».proof.Proof.Gen.ReferenceIdeal.Run
public import Idealize.ShloMosaic.Lib.IdealHost
public import Idealize.ShloMosaic.Lib.Layout
public import Idealize.ShloMosaic.Lib.Pointwise.Reduce
public import Idealize.ShloMosaic.Lib.Pipeline.Value

@[expose] public section

noncomputable section

namespace Cert.AllReduce

open Cert.ReferenceIdeal Cert.ReferenceIdeal.Gen
open Idealize.ShloMosaic

/-- The argument cut into eight blocks of rows: element `i` of block `d` of the reshaped array is element `i` of the part of the
    argument that device `d` holds. -/
theorem reshape_block (x : S2048x256.Idx → EReal) (h : S2048x256.ShapeCasts S8x256x256) (d : Fin 8) (i : S256x256.Idx) :
    shapeCast S8x256x256 x h (ix3 d (i 0) (i 1)) = Layout.block ⟨2, ![256, 256]⟩ ⟨2, ![2048, 256]⟩ 0 8 d x (by decide) i := by
  rw [Layout.block_apply]
  refine shapeCast_apply x h _ _ ?_
  rw [Shape.rowMajor_val_two, Shape.rowMajor_val_three]
  rfl

/-- The reference's result is, element by element, the sum of the eight parts. -/
theorem reference_apply (x : S2048x256.Idx → EReal) (i : S256x256.Idx) :
    Host.reduceAdd (F := Ideal) (φ := .f32) (shapeCast S8x256x256 x shapeCasts_S2048x256_S8x256x256) (constant (F := Ideal) S_ .f32 0x00000000#32)
        reducesTo_S8x256x256_S256x256_d0 h_S_ i
      = ∑ d : Fin 8, Layout.block ⟨2, ![256, 256]⟩ ⟨2, ![2048, 256]⟩ 0 8 d x (by decide) i := by
  rw [ValueIdx.hostReduceAdd_apply, Ideal.hostReduceAdd_r3_a0]
  rw [show (constant (F := Ideal) S_ .f32 0x00000000#32) (Shape.Idx.first h_S_) = (0 : EReal) from Ideal.ofBits_zero_f32, zero_add]
  exact Finset.sum_congr rfl fun d _ => reshape_block x _ d i

end Cert.AllReduce

end
-- ==== Proof.SameProgram.lean ====
/-
The kernel and its idealization are one program: no operation was rewritten, so their body tables are equal at any floats.
-/
module

public import proofs.«01_k».proof.Proof.Gen.Kernel
public import proofs.«01_k».proof.Proof.Gen.KernelIdeal

@[expose] public section

noncomputable section

namespace Cert.AllReduce

open Idealize.ShloMosaic

variable {F : FTy → Type} [FloatOps F]

/-- The tables of the kernels' bodies are equal: the one label runs the same body. -/
theorem bodies_eq : Cert.Kernel.defs₀ (F := F) = Cert.KernelIdeal.defs₀ (F := F) := by
  unfold Cert.Kernel.defs₀ Cert.KernelIdeal.defs₀
  refine congrArg Defs.onTc (funext fun ℓ => funext fun a => ?_)
  obtain ⟨_ | n, h⟩ := ℓ
  · rfl
  · exact absurd h (Nat.not_lt.2 (Nat.le_add_left _ _))

/-- The whole tables, with the pipeline's own labels, are equal. -/
theorem tables_eq : Cert.Kernel.defs (F := F) = Cert.KernelIdeal.defs (F := F) :=
  congrArg (Pipeline.defs (Cert.KernelIdeal.pcfgs (F := F))) bodies_eq

end Cert.AllReduce

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Value
public import proofs.«01_k».proof.Proof.Reference
public import proofs.«01_k».proof.Proof.SameProgram

@[expose] public section

noncomputable section

namespace Cert.Proof

open Idealize.ShloMosaic Idealize.SL.Sem Cert.Kernel

/-- At any floats the program runs, its argument unchanged and every semaphore at zero. -/
theorem frame_any {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r =>
      (∀ c : Dev Cert.KernelIdeal.nD, r.2.mem ((c.tc : Thread Cert.KernelIdeal.nD Cert.KernelIdeal.τ).loc Cert.KernelIdeal.main_arg0)
        = m ((c.tc : Thread Cert.KernelIdeal.nD Cert.KernelIdeal.τ).loc Cert.KernelIdeal.main_arg0)) ∧ r.2.sem = fun _ => 0) :=
  (θ_run (Cert.KernelIdeal.defs (F := F)) _ _).mono
    (fun _ h => ⟨fun c => (h.1 c (0 : Fin 2)).trans (Cert.AllReduce.last_arg m ρ c), h.2⟩)
    (Cert.AllReduce.run_main (F := F) m ρ)

/-- The kernel at machine floats: it is the same program as its idealization. -/
theorem frame_kernel : Cert.quiescent_Kernel := fun m ρ _ => by
  rw [Cert.AllReduce.tables_eq]
  exact frame_any (F := Bits) m ρ

/-- The same over the extended reals. -/
theorem frame_ideal : Cert.quiescent_KernelIdeal := fun m ρ _ => frame_any (F := Ideal) m ρ

/-- The reference runs, its argument unchanged; it has no semaphore. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- Over the extended reals, where the devices hold the eight parts of the reference's argument, every device ends holding the
    reference's result: both are, element by element, the sum of the parts. -/
theorem algebraic : Cert.algebraic_KernelIdeal_ReferenceIdeal := fun m ρ m' ρ' _ hm => by
  refine ⟨Cert.AllReduce.res m ρ, ?_, ?_⟩
  · exact (θ_run (Cert.KernelIdeal.defs (F := Ideal)) _ _).mono
      (fun _ h c => ⟨(h.1 c (1 : Fin 2)).trans (Cert.AllReduce.last_out m ρ c), (h.1 c (0 : Fin 2)).trans (Cert.AllReduce.last_arg m ρ c)⟩)
      (Cert.AllReduce.run_main (F := Ideal) m ρ)
  · refine (θ_run (Cert.ReferenceIdeal.defs (F := Ideal)) _ _).mono (fun r h => ⟨(h 0).1.trans ?_, (h 0).2⟩)
      (Cert.ReferenceIdeal.Value.run (F := Ideal) m' ρ')
    funext i
    refine (Cert.AllReduce.reference_apply _ i).trans ((Cert.AllReduce.res_apply m ρ i).trans ?_).symm
    exact Finset.sum_congr rfl fun d _ => congrFun (hm d) i

/-- All five claims. -/
theorem claim : Cert.Claim := ⟨Cert.Kernel.Gen.facts, Cert.KernelIdeal.Gen.facts, Cert.ReferenceIdeal.Gen.facts,
  frame_kernel, frame_ideal, frame_reference, trivial, algebraic⟩

end Cert.Proof

end
